-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 256, 512]⟩ ⟨3, ![32, 256, 512]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![32, 512]⟩ ⟨2, ![512, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v68) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S512x256 : Shape := ⟨2, ![512, 256]⟩
abbrev S256x32 : Shape := ⟨2, ![256, 32]⟩
abbrev S512x2 : Shape := ⟨2, ![512, 2]⟩
abbrev S2x256x512 : Shape := ⟨3, ![2, 256, 512]⟩
abbrev S_ : Shape := ⟨0, ![]⟩

class Facts : Prop where
  bcast_S_S512x2 : S_.BroadcastsInDim S512x2 (![] : Fin 0 → Fin S512x2.rank)
  reducesTo_S512x2_S_d0_1 : S512x2.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256x32 : S_.BroadcastsInDim S256x32 (![] : Fin 0 → Fin S256x32.rank)
  reducesTo_S256x32_S_d0_1 : S256x32.ReducesTo [0, 1] S_

variable [Facts]

def fn {F : FTy → Type} [FloatOps F] (main_arg0 : FVec F S512x256 .f32) (main_arg1 : FVec F S256x32 .f32) (main_arg2 : IVec S512x2 32) (main_arg3 : FVec F S2x256x512 .f32) : IVec S_ 1 :=
  let main_c : IVec S_ 32 := constantI S_ 32 0#32
  let main_v0 : IVec S512x2 32 := broadcastInDim S512x2 ![] bcast_S_S512x2 main_c
  let main_v1 : IVec S512x2 1 := cmpi .sge main_arg2 main_v0
  let main_c_0 : IVec S_ 32 := constantI S_ 32 32#32
  let main_v2 : IVec S512x2 32 := broadcastInDim S512x2 ![] bcast_S_S512x2 main_c_0
  let main_v3 : IVec S512x2 1 := cmpi .slt main_arg2 main_v2
  let main_v4 : IVec S512x2 1 := andi main_v1 main_v3
  let main_c_1 : IVec S_ 1 := constantI S_ 1 1#1
  let main_v5 : IVec S_ 1 := (fun x v => Host.reduce IntOp.andi x v reducesTo_S512x2_S_d0_1 h_S_) main_v4 main_c_1
  let main_v6 : FVec F S512x256 .f32 := Host.absf main_arg0
  let main_cst : FVec F S_ .f32 := constant S_ .f32 0x7F800000#32
  let main_v7 : FVec F S512x256 .f32 := broadcastInDim S512x256 ![] bcast_S_S512x256 main_cst
  let main_v8 : IVec S512x256 1 := cmpf .olt main_v6 main_v7
  let main_c_2 : IVec S_ 1 := constantI S_ 1 1#1
  let main_v9 : IVec S_ 1 := (fun x v => Host.reduce IntOp.andi x v reducesTo_S512x256_S_d0_1 h_S_) main_v8 main_c_2
  let main_v10 : IVec S_ 1 := andi main_v5 main_v9
  let main_v11 : FVec F S256x32 .f32 := Host.absf main_arg1
  let main_cst_3 : FVec F S_ .f32 := constant S_ .f32 0x7F800000#32
  let main_v12 : FVec F S256x32 .f32 := broadcastInDim S256x32 ![] bcast_S_S256x32 main_cst_3
  let main_v13 : IVec S256x32 1 := cmpf .olt main_v11 main_v12
  let main_c_4 : IVec S_ 1 := constantI S_ 1 1#1
  let main_v14 : IVec S_ 1 := (fun x v => Host.reduce IntOp.andi x v reducesTo_S256x32_S_d0_1 h_S_) main_v13 main_c_4
  let main_v15 : IVec S_ 1 := andi main_v10 main_v14
  main_v15
-- ==== Pre_routed_ReferenceIdeal.lean ====
abbrev S512x256 : Shape := ⟨2, ![512, 256]⟩
abbrev S256x32 : Shape := ⟨2, ![256, 32]⟩
abbrev S512x2 : Shape := ⟨2, ![512, 2]⟩
abbrev S32x256x512 : Shape := ⟨3, ![32, 256, 512]⟩
abbrev S_ : Shape := ⟨0, ![]⟩

class Facts : Prop where
  bcast_S_S512x2 : S_.BroadcastsInDim S512x2 (![] : Fin 0 → Fin S512x2.rank)
  reducesTo_S512x2_S_d0_1 : S512x2.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256x32 : S_.BroadcastsInDim S256x32 (![] : Fin 0 → Fin S256x32.rank)
  reducesTo_S256x32_S_d0_1 : S256x32.ReducesTo [0, 1] S_

variable [Facts]

def fn {F : FTy → Type} [FloatOps F] (main_arg0 : FVec F S512x256 .f32) (main_arg1 : FVec F S256x32 .f32) (main_arg2 : IVec S512x2 32) (main_arg3 : FVec F S32x256x512 .f32) : IVec S_ 1 :=
  let main_c : IVec S_ 32 := constantI S_ 32 0#32
  let main_v0 : IVec S512x2 32 := broadcastInDim S512x2 ![] bcast_S_S512x2 main_c
  let main_v1 : IVec S512x2 1 := cmpi .sge main_arg2 main_v0
  let main_c_0 : IVec S_ 32 := constantI S_ 32 32#32
  let main_v2 : IVec S512x2 32 := broadcastInDim S512x2 ![] bcast_S_S512x2 main_c_0
  let main_v3 : IVec S512x2 1 := cmpi .slt main_arg2 main_v2
  let main_v4 : IVec S512x2 1 := andi main_v1 main_v3
  let main_c_1 : IVec S_ 1 := constantI S_ 1 1#1
  let main_v5 : IVec S_ 1 := (fun x v => Host.reduce IntOp.andi x v reducesTo_S512x2_S_d0_1 h_S_) main_v4 main_c_1
  let main_v6 : FVec F S512x256 .f32 := Host.absf main_arg0
  let main_cst : FVec F S_ .f32 := constant S_ .f32 0x7F800000#32
  let main_v7 : FVec F S512x256 .f32 := broadcastInDim S512x256 ![] bcast_S_S512x256 main_cst
  let main_v8 : IVec S512x256 1 := cmpf .olt main_v6 main_v7
  let main_c_2 : IVec S_ 1 := constantI S_ 1 1#1
  let main_v9 : IVec S_ 1 := (fun x v => Host.reduce IntOp.andi x v reducesTo_S512x256_S_d0_1 h_S_) main_v8 main_c_2
  let main_v10 : IVec S_ 1 := andi main_v5 main_v9
  let main_v11 : FVec F S256x32 .f32 := Host.absf main_arg1
  let main_cst_3 : FVec F S_ .f32 := constant S_ .f32 0x7F800000#32
  let main_v12 : FVec F S256x32 .f32 := broadcastInDim S256x32 ![] bcast_S_S256x32 main_cst_3
  let main_v13 : IVec S256x32 1 := cmpf .olt main_v11 main_v12
  let main_c_4 : IVec S_ 1 := constantI S_ 1 1#1
  let main_v14 : IVec S_ 1 := (fun x v => Host.reduce IntOp.andi x v reducesTo_S256x32_S_d0_1 h_S_) main_v13 main_c_4
  let main_v15 : IVec S_ 1 := andi main_v10 main_v14
  main_v15
-- ==== Kernel.lean ====
abbrev S512x256 : Shape := ⟨2, ![512, 256]⟩
abbrev S256x32 : Shape := ⟨2, ![256, 32]⟩
abbrev S512x2 : Shape := ⟨2, ![512, 2]⟩
abbrev S2x256x512 : Shape := ⟨3, ![2, 256, 512]⟩
abbrev S32x512 : Shape := ⟨2, ![32, 512]⟩
abbrev S512x512 : Shape := ⟨2, ![512, 512]⟩
abbrev S15x32x512 : Shape := ⟨3, ![15, 32, 512]⟩
abbrev S1024x256 : Shape := ⟨2, ![1024, 256]⟩
abbrev S1024x2 : Shape := ⟨2, ![1024, 2]⟩
abbrev S15 : Shape := ⟨1, ![15]⟩
abbrev S1 : Shape := ⟨1, ![1]⟩
abbrev S_ : Shape := ⟨0, ![]⟩
abbrev S512x32 : Shape := ⟨2, ![512, 32]⟩
abbrev S512 : Shape := ⟨1, ![512]⟩
abbrev S512x1 : Shape := ⟨2, ![512, 1]⟩
abbrev S1x256x512 : Shape := ⟨3, ![1, 256, 512]⟩
abbrev S256x512 : Shape := ⟨2, ![256, 512]⟩
abbrev S256x256 : Shape := ⟨2, ![256, 256]⟩
abbrev S256x1 : Shape := ⟨2, ![256, 1]⟩
abbrev S1x32x512 : Shape := ⟨3, ![1, 32, 512]⟩

abbrev nBuf : Space → Nat
  | .hbm => 5
  | .vmem => 9
  | .smem => 0
  | _ => 0

abbrev bufTy : (tb : Table) → Fin (tcTables nBuf tb) → BufTy
  | .hbm, ⟨0, _⟩ => ⟨S512x256, .f32⟩
  | .hbm, ⟨1, _⟩ => ⟨S256x32, .f32⟩
  | .hbm, ⟨2, _⟩ => ⟨S512x2, .i32⟩
  | .hbm, ⟨3, _⟩ => ⟨S2x256x512, .f32⟩
  | .hbm, ⟨4, _⟩ => ⟨S32x512, .f32⟩
  | .local _ .vmem, ⟨0, _⟩ => ⟨S512x256, .f32⟩
  | .local _ .vmem, ⟨1, _⟩ => ⟨S256x32, .f32⟩
  | .local _ .vmem, ⟨2, _⟩ => ⟨S512x2, .i32⟩
  | .local _ .vmem, ⟨3, _⟩ => ⟨S2x256x512, .f32⟩
  | .local _ .vmem, ⟨4, _⟩ => ⟨S32x512, .f32⟩
  | .local _ .vmem, ⟨5, _⟩ => ⟨S512x512, .bf16⟩
  | .local _ .vmem, ⟨6, _⟩ => ⟨S15x32x512, .bf16⟩
  | .local _ .vmem, ⟨7, _⟩ => ⟨S1024x256, .f32⟩
  | .local _ .vmem, ⟨8, _⟩ => ⟨S1024x2, .i32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 16 35 bufScoped semScoped dmaSemScoped tileCredit tileCredit_eq_zero tileCredit_pos).withBarriers [(0, 15)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 15

abbrev nD : Nat := 16
abbrev τ : Topo := Topo.v7x

variable {F : FTy → Type} [FloatOps F]

abbrev grid0 : Pipeline.Grid := .none

def k0_dev1 (d0 : Dev nD) : Nat :=
  let c0_i32_6 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c0_i32 : BitVec 32 := 0#32
  let v5 : BitVec 32 := Scalar.subi v4 c0_i32
  let c16_i32_2 : BitVec 32 := 16#32
  let v6 : BitVec 32 := Scalar.remsi v5 c16_i32_2
  let c1_i32_5 : BitVec 32 := 1#32
  let v9 : BitVec 32 := Scalar.muli v6 c1_i32_5
  let v10 : BitVec 32 := Scalar.addi c0_i32_6 v9
  v10.toNat
def k0_dev2 (d0 : Dev nD) : Nat :=
  let c0_i32_14 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_7 : BitVec 32 := 16#32
  let v11 : BitVec 32 := Scalar.addi v2 c16_i32_7
  let c1_i32_8 : BitVec 32 := 1#32
  let v12 : BitVec 32 := Scalar.subi v11 c1_i32_8
  let c1_i32_9 : BitVec 32 := 1#32
  let v13 : BitVec 32 := Scalar.subi v12 c1_i32_9
  let c16_i32_10 : BitVec 32 := 16#32
  let v14 : BitVec 32 := Scalar.remsi v13 c16_i32_10
  let c1_i32_13 : BitVec 32 := 1#32
  let v17 : BitVec 32 := Scalar.muli v14 c1_i32_13
  let v18 : BitVec 32 := Scalar.addi c0_i32_14 v17
  v18.toNat
def k0_dev3 (d0 : Dev nD) : Nat :=
  let c0_i32_21 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_15 : BitVec 32 := 16#32
  let v19 : BitVec 32 := Scalar.addi v2 c16_i32_15
  let c1_i32_16 : BitVec 32 := 1#32
  let v20 : BitVec 32 := Scalar.subi v19 c1_i32_16
  let c2_i32 : BitVec 32 := 2#32
  let v21 : BitVec 32 := Scalar.subi v20 c2_i32
  let c16_i32_17 : BitVec 32 := 16#32
  let v22 : BitVec 32 := Scalar.remsi v21 c16_i32_17
  let c1_i32_20 : BitVec 32 := 1#32
  let v25 : BitVec 32 := Scalar.muli v22 c1_i32_20
  let v26 : BitVec 32 := Scalar.addi c0_i32_21 v25
  v26.toNat
def k0_dev4 (d0 : Dev nD) : Nat :=
  let c0_i32_28 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_22 : BitVec 32 := 16#32
  let v27 : BitVec 32 := Scalar.addi v2 c16_i32_22
  let c1_i32_23 : BitVec 32 := 1#32
  let v28 : BitVec 32 := Scalar.subi v27 c1_i32_23
  let c3_i32 : BitVec 32 := 3#32
  let v29 : BitVec 32 := Scalar.subi v28 c3_i32
  let c16_i32_24 : BitVec 32 := 16#32
  let v30 : BitVec 32 := Scalar.remsi v29 c16_i32_24
  let c1_i32_27 : BitVec 32 := 1#32
  let v33 : BitVec 32 := Scalar.muli v30 c1_i32_27
  let v34 : BitVec 32 := Scalar.addi c0_i32_28 v33
  v34.toNat
def k0_dev5 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_29 : BitVec 32 := 16#32
  let v35 : BitVec 32 := Scalar.addi v2 c16_i32_29
  let c1_i32_30 : BitVec 32 := 1#32
  let v36 : BitVec 32 := Scalar.subi v35 c1_i32_30
  let c4_i32 : BitVec 32 := 4#32
  let v37 : BitVec 32 := Scalar.subi v36 c4_i32
  let c16_i32_31 : BitVec 32 := 16#32
  let v38 : BitVec 32 := Scalar.remsi v37 c16_i32_31
  let c1_i32_34 : BitVec 32 := 1#32
  let v41 : BitVec 32 := Scalar.muli v38 c1_i32_34
  let v42 : BitVec 32 := Scalar.addi c0_i32_35 v41
  v42.toNat
def k0_dev6 (d0 : Dev nD) : Nat :=
  let c0_i32_42 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_36 : BitVec 32 := 16#32
  let v43 : BitVec 32 := Scalar.addi v2 c16_i32_36
  let c1_i32_37 : BitVec 32 := 1#32
  let v44 : BitVec 32 := Scalar.subi v43 c1_i32_37
  let c5_i32 : BitVec 32 := 5#32
  let v45 : BitVec 32 := Scalar.subi v44 c5_i32
  let c16_i32_38 : BitVec 32 := 16#32
  let v46 : BitVec 32 := Scalar.remsi v45 c16_i32_38
  let c1_i32_41 : BitVec 32 := 1#32
  let v49 : BitVec 32 := Scalar.muli v46 c1_i32_41
  let v50 : BitVec 32 := Scalar.addi c0_i32_42 v49
  v50.toNat
def k0_dev7 (d0 : Dev nD) : Nat :=
  let c0_i32_49 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_43 : BitVec 32 := 16#32
  let v51 : BitVec 32 := Scalar.addi v2 c16_i32_43
  let c1_i32_44 : BitVec 32 := 1#32
  let v52 : BitVec 32 := Scalar.subi v51 c1_i32_44
  let c6_i32 : BitVec 32 := 6#32
  let v53 : BitVec 32 := Scalar.subi v52 c6_i32
  let c16_i32_45 : BitVec 32 := 16#32
  let v54 : BitVec 32 := Scalar.remsi v53 c16_i32_45
  let c1_i32_48 : BitVec 32 := 1#32
  let v57 : BitVec 32 := Scalar.muli v54 c1_i32_48
  let v58 : BitVec 32 := Scalar.addi c0_i32_49 v57
  v58.toNat
def k0_dev8 (d0 : Dev nD) : Nat :=
  let c0_i32_56 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_50 : BitVec 32 := 16#32
  let v59 : BitVec 32 := Scalar.addi v2 c16_i32_50
  let c1_i32_51 : BitVec 32 := 1#32
  let v60 : BitVec 32 := Scalar.subi v59 c1_i32_51
  let c7_i32 : BitVec 32 := 7#32
  let v61 : BitVec 32 := Scalar.subi v60 c7_i32
  let c16_i32_52 : BitVec 32 := 16#32
  let v62 : BitVec 32 := Scalar.remsi v61 c16_i32_52
  let c1_i32_55 : BitVec 32 := 1#32
  let v65 : BitVec 32 := Scalar.muli v62 c1_i32_55
  let v66 : BitVec 32 := Scalar.addi c0_i32_56 v65
  v66.toNat
def k0_dev9 (d0 : Dev nD) : Nat :=
  let c0_i32_63 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_57 : BitVec 32 := 16#32
  let v67 : BitVec 32 := Scalar.addi v2 c16_i32_57
  let c1_i32_58 : BitVec 32 := 1#32
  let v68 : BitVec 32 := Scalar.subi v67 c1_i32_58
  let c8_i32 : BitVec 32 := 8#32
  let v69 : BitVec 32 := Scalar.subi v68 c8_i32
  let c16_i32_59 : BitVec 32 := 16#32
  let v70 : BitVec 32 := Scalar.remsi v69 c16_i32_59
  let c1_i32_62 : BitVec 32 := 1#32
  let v73 : BitVec 32 := Scalar.muli v70 c1_i32_62
  let v74 : BitVec 32 := Scalar.addi c0_i32_63 v73
  v74.toNat
def k0_dev10 (d0 : Dev nD) : Nat :=
  let c0_i32_70 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_64 : BitVec 32 := 16#32
  let v75 : BitVec 32 := Scalar.addi v2 c16_i32_64
  let c1_i32_65 : BitVec 32 := 1#32
  let v76 : BitVec 32 := Scalar.subi v75 c1_i32_65
  let c9_i32 : BitVec 32 := 9#32
  let v77 : BitVec 32 := Scalar.subi v76 c9_i32
  let c16_i32_66 : BitVec 32 := 16#32
  let v78 : BitVec 32 := Scalar.remsi v77 c16_i32_66
  let c1_i32_69 : BitVec 32 := 1#32
  let v81 : BitVec 32 := Scalar.muli v78 c1_i32_69
  let v82 : BitVec 32 := Scalar.addi c0_i32_70 v81
  v82.toNat
def k0_dev11 (d0 : Dev nD) : Nat :=
  let c0_i32_77 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_71 : BitVec 32 := 16#32
  let v83 : BitVec 32 := Scalar.addi v2 c16_i32_71
  let c1_i32_72 : BitVec 32 := 1#32
  let v84 : BitVec 32 := Scalar.subi v83 c1_i32_72
  let c10_i32 : BitVec 32 := 10#32
  let v85 : BitVec 32 := Scalar.subi v84 c10_i32
  let c16_i32_73 : BitVec 32 := 16#32
  let v86 : BitVec 32 := Scalar.remsi v85 c16_i32_73
  let c1_i32_76 : BitVec 32 := 1#32
  let v89 : BitVec 32 := Scalar.muli v86 c1_i32_76
  let v90 : BitVec 32 := Scalar.addi c0_i32_77 v89
  v90.toNat
def k0_dev12 (d0 : Dev nD) : Nat :=
  let c0_i32_84 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_78 : BitVec 32 := 16#32
  let v91 : BitVec 32 := Scalar.addi v2 c16_i32_78
  let c1_i32_79 : BitVec 32 := 1#32
  let v92 : BitVec 32 := Scalar.subi v91 c1_i32_79
  let c11_i32 : BitVec 32 := 11#32
  let v93 : BitVec 32 := Scalar.subi v92 c11_i32
  let c16_i32_80 : BitVec 32 := 16#32
  let v94 : BitVec 32 := Scalar.remsi v93 c16_i32_80
  let c1_i32_83 : BitVec 32 := 1#32
  let v97 : BitVec 32 := Scalar.muli v94 c1_i32_83
  let v98 : BitVec 32 := Scalar.addi c0_i32_84 v97
  v98.toNat
def k0_dev13 (d0 : Dev nD) : Nat :=
  let c0_i32_91 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_85 : BitVec 32 := 16#32
  let v99 : BitVec 32 := Scalar.addi v2 c16_i32_85
  let c1_i32_86 : BitVec 32 := 1#32
  let v100 : BitVec 32 := Scalar.subi v99 c1_i32_86
  let c12_i32 : BitVec 32 := 12#32
  let v101 : BitVec 32 := Scalar.subi v100 c12_i32
  let c16_i32_87 : BitVec 32 := 16#32
  let v102 : BitVec 32 := Scalar.remsi v101 c16_i32_87
  let c1_i32_90 : BitVec 32 := 1#32
  let v105 : BitVec 32 := Scalar.muli v102 c1_i32_90
  let v106 : BitVec 32 := Scalar.addi c0_i32_91 v105
  v106.toNat
def k0_dev14 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_92 : BitVec 32 := 16#32
  let v107 : BitVec 32 := Scalar.addi v2 c16_i32_92
  let c1_i32_93 : BitVec 32 := 1#32
  let v108 : BitVec 32 := Scalar.subi v107 c1_i32_93
  let c13_i32 : BitVec 32 := 13#32
  let v109 : BitVec 32 := Scalar.subi v108 c13_i32
  let c16_i32_94 : BitVec 32 := 16#32
  let v110 : BitVec 32 := Scalar.remsi v109 c16_i32_94
  let c1_i32_97 : BitVec 32 := 1#32
  let v113 : BitVec 32 := Scalar.muli v110 c1_i32_97
  let v114 : BitVec 32 := Scalar.addi c0_i32_98 v113
  v114.toNat
def k0_dev15 (d0 : Dev nD) : Nat :=
  let c0_i32_105 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_99 : BitVec 32 := 16#32
  let v115 : BitVec 32 := Scalar.addi v2 c16_i32_99
  let c1_i32_100 : BitVec 32 := 1#32
  let v116 : BitVec 32 := Scalar.subi v115 c1_i32_100
  let c14_i32 : BitVec 32 := 14#32
  let v117 : BitVec 32 := Scalar.subi v116 c14_i32
  let c16_i32_101 : BitVec 32 := 16#32
  let v118 : BitVec 32 := Scalar.remsi v117 c16_i32_101
  let c1_i32_104 : BitVec 32 := 1#32
  let v121 : BitVec 32 := Scalar.muli v118 c1_i32_104
  let v122 : BitVec 32 := Scalar.addi c0_i32_105 v121
  v122.toNat
def k0_dev16 (d0 : Dev nD) : Nat :=
  let c0_i32_110 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_106 : BitVec 32 := 1#32
  let v124 : BitVec 32 := Scalar.addi v2 c1_i32_106
  let c16_i32_107 : BitVec 32 := 16#32
  let v125 : BitVec 32 := Scalar.remsi v124 c16_i32_107
  let c1_i32_109 : BitVec 32 := 1#32
  let v126 : BitVec 32 := Scalar.muli v125 c1_i32_109
  let v127 : BitVec 32 := Scalar.addi c0_i32_110 v126
  v127.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_112 : BitVec 32 := 1#32
  let v128 : BitVec 32 := Scalar.addi v2 c1_i32_112
  let c16_i32_113 : BitVec 32 := 16#32
  let v129 : BitVec 32 := Scalar.remsi v128 c16_i32_113
  let c32_i32 : BitVec 32 := 32#32
  let v130 : BitVec 32 := Scalar.muli v129 c32_i32
  let v151 : Index := Scalar.indexCast v130
  let c0_128 : Index := 0#32
  ![v151.toNat, 0]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_112 : BitVec 32 := 1#32
  let v128 : BitVec 32 := Scalar.addi v2 c1_i32_112
  let c16_i32_113 : BitVec 32 := 16#32
  let v129 : BitVec 32 := Scalar.remsi v128 c16_i32_113
  let c32_i32 : BitVec 32 := 32#32
  let v130 : BitVec 32 := Scalar.muli v129 c32_i32
  let v153 : Index := Scalar.indexCast v130
  let c0_129 : Index := 0#32
  ![v153.toNat, 0]
def k0_dev17 (d0 : Dev nD) : Nat :=
  let c0_i32_162 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_155 : BitVec 32 := 1#32
  let v219 : BitVec 32 := Scalar.addi v2 c1_i32_155
  let c0_i32_156 : BitVec 32 := 0#32
  let v220 : BitVec 32 := Scalar.addi v219 c0_i32_156
  let c16_i32_157 : BitVec 32 := 16#32
  let v221 : BitVec 32 := Scalar.remsi v220 c16_i32_157
  let c1_i32_161 : BitVec 32 := 1#32
  let v222 : BitVec 32 := Scalar.muli v221 c1_i32_161
  let v223 : BitVec 32 := Scalar.addi c0_i32_162 v222
  v223.toNat
def k0_dev18 (d0 : Dev nD) : Nat :=
  let c0_i32_177 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_170 : BitVec 32 := 1#32
  let v233 : BitVec 32 := Scalar.addi v2 c1_i32_170
  let c1_i32_171 : BitVec 32 := 1#32
  let v234 : BitVec 32 := Scalar.addi v233 c1_i32_171
  let c16_i32_172 : BitVec 32 := 16#32
  let v235 : BitVec 32 := Scalar.remsi v234 c16_i32_172
  let c1_i32_176 : BitVec 32 := 1#32
  let v236 : BitVec 32 := Scalar.muli v235 c1_i32_176
  let v237 : BitVec 32 := Scalar.addi c0_i32_177 v236
  v237.toNat
def k0_dev19 (d0 : Dev nD) : Nat :=
  let c0_i32_192 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_185 : BitVec 32 := 1#32
  let v247 : BitVec 32 := Scalar.addi v2 c1_i32_185
  let c2_i32_186 : BitVec 32 := 2#32
  let v248 : BitVec 32 := Scalar.addi v247 c2_i32_186
  let c16_i32_187 : BitVec 32 := 16#32
  let v249 : BitVec 32 := Scalar.remsi v248 c16_i32_187
  let c1_i32_191 : BitVec 32 := 1#32
  let v250 : BitVec 32 := Scalar.muli v249 c1_i32_191
  let v251 : BitVec 32 := Scalar.addi c0_i32_192 v250
  v251.toNat
def k0_dev20 (d0 : Dev nD) : Nat :=
  let c0_i32_206 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_199 : BitVec 32 := 1#32
  let v261 : BitVec 32 := Scalar.addi v2 c1_i32_199
  let c3_i32_200 : BitVec 32 := 3#32
  let v262 : BitVec 32 := Scalar.addi v261 c3_i32_200
  let c16_i32_201 : BitVec 32 := 16#32
  let v263 : BitVec 32 := Scalar.remsi v262 c16_i32_201
  let c1_i32_205 : BitVec 32 := 1#32
  let v264 : BitVec 32 := Scalar.muli v263 c1_i32_205
  let v265 : BitVec 32 := Scalar.addi c0_i32_206 v264
  v265.toNat
def k0_dev21 (d0 : Dev nD) : Nat :=
  let c0_i32_220 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_213 : BitVec 32 := 1#32
  let v275 : BitVec 32 := Scalar.addi v2 c1_i32_213
  let c4_i32_214 : BitVec 32 := 4#32
  let v276 : BitVec 32 := Scalar.addi v275 c4_i32_214
  let c16_i32_215 : BitVec 32 := 16#32
  let v277 : BitVec 32 := Scalar.remsi v276 c16_i32_215
  let c1_i32_219 : BitVec 32 := 1#32
  let v278 : BitVec 32 := Scalar.muli v277 c1_i32_219
  let v279 : BitVec 32 := Scalar.addi c0_i32_220 v278
  v279.toNat
def k0_dev22 (d0 : Dev nD) : Nat :=
  let c0_i32_234 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_227 : BitVec 32 := 1#32
  let v289 : BitVec 32 := Scalar.addi v2 c1_i32_227
  let c5_i32_228 : BitVec 32 := 5#32
  let v290 : BitVec 32 := Scalar.addi v289 c5_i32_228
  let c16_i32_229 : BitVec 32 := 16#32
  let v291 : BitVec 32 := Scalar.remsi v290 c16_i32_229
  let c1_i32_233 : BitVec 32 := 1#32
  let v292 : BitVec 32 := Scalar.muli v291 c1_i32_233
  let v293 : BitVec 32 := Scalar.addi c0_i32_234 v292
  v293.toNat
def k0_dev23 (d0 : Dev nD) : Nat :=
  let c0_i32_248 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_241 : BitVec 32 := 1#32
  let v303 : BitVec 32 := Scalar.addi v2 c1_i32_241
  let c6_i32_242 : BitVec 32 := 6#32
  let v304 : BitVec 32 := Scalar.addi v303 c6_i32_242
  let c16_i32_243 : BitVec 32 := 16#32
  let v305 : BitVec 32 := Scalar.remsi v304 c16_i32_243
  let c1_i32_247 : BitVec 32 := 1#32
  let v306 : BitVec 32 := Scalar.muli v305 c1_i32_247
  let v307 : BitVec 32 := Scalar.addi c0_i32_248 v306
  v307.toNat
def k0_dev24 (d0 : Dev nD) : Nat :=
  let c0_i32_262 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_255 : BitVec 32 := 1#32
  let v317 : BitVec 32 := Scalar.addi v2 c1_i32_255
  let c7_i32_256 : BitVec 32 := 7#32
  let v318 : BitVec 32 := Scalar.addi v317 c7_i32_256
  let c16_i32_257 : BitVec 32 := 16#32
  let v319 : BitVec 32 := Scalar.remsi v318 c16_i32_257
  let c1_i32_261 : BitVec 32 := 1#32
  let v320 : BitVec 32 := Scalar.muli v319 c1_i32_261
  let v321 : BitVec 32 := Scalar.addi c0_i32_262 v320
  v321.toNat
def k0_dev25 (d0 : Dev nD) : Nat :=
  let c0_i32_279 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_272 : BitVec 32 := 1#32
  let v345 : BitVec 32 := Scalar.addi v2 c1_i32_272
  let c8_i32_273 : BitVec 32 := 8#32
  let v346 : BitVec 32 := Scalar.addi v345 c8_i32_273
  let c16_i32_274 : BitVec 32 := 16#32
  let v347 : BitVec 32 := Scalar.remsi v346 c16_i32_274
  let c1_i32_278 : BitVec 32 := 1#32
  let v348 : BitVec 32 := Scalar.muli v347 c1_i32_278
  let v349 : BitVec 32 := Scalar.addi c0_i32_279 v348
  v349.toNat
def k0_dev26 (d0 : Dev nD) : Nat :=
  let c0_i32_293 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_286 : BitVec 32 := 1#32
  let v359 : BitVec 32 := Scalar.addi v2 c1_i32_286
  let c9_i32_287 : BitVec 32 := 9#32
  let v360 : BitVec 32 := Scalar.addi v359 c9_i32_287
  let c16_i32_288 : BitVec 32 := 16#32
  let v361 : BitVec 32 := Scalar.remsi v360 c16_i32_288
  let c1_i32_292 : BitVec 32 := 1#32
  let v362 : BitVec 32 := Scalar.muli v361 c1_i32_292
  let v363 : BitVec 32 := Scalar.addi c0_i32_293 v362
  v363.toNat
def k0_dev27 (d0 : Dev nD) : Nat :=
  let c0_i32_307 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_300 : BitVec 32 := 1#32
  let v373 : BitVec 32 := Scalar.addi v2 c1_i32_300
  let c10_i32_301 : BitVec 32 := 10#32
  let v374 : BitVec 32 := Scalar.addi v373 c10_i32_301
  let c16_i32_302 : BitVec 32 := 16#32
  let v375 : BitVec 32 := Scalar.remsi v374 c16_i32_302
  let c1_i32_306 : BitVec 32 := 1#32
  let v376 : BitVec 32 := Scalar.muli v375 c1_i32_306
  let v377 : BitVec 32 := Scalar.addi c0_i32_307 v376
  v377.toNat
def k0_dev28 (d0 : Dev nD) : Nat :=
  let c0_i32_321 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_314 : BitVec 32 := 1#32
  let v387 : BitVec 32 := Scalar.addi v2 c1_i32_314
  let c11_i32_315 : BitVec 32 := 11#32
  let v388 : BitVec 32 := Scalar.addi v387 c11_i32_315
  let c16_i32_316 : BitVec 32 := 16#32
  let v389 : BitVec 32 := Scalar.remsi v388 c16_i32_316
  let c1_i32_320 : BitVec 32 := 1#32
  let v390 : BitVec 32 := Scalar.muli v389 c1_i32_320
  let v391 : BitVec 32 := Scalar.addi c0_i32_321 v390
  v391.toNat
def k0_dev29 (d0 : Dev nD) : Nat :=
  let c0_i32_335 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_328 : BitVec 32 := 1#32
  let v401 : BitVec 32 := Scalar.addi v2 c1_i32_328
  let c12_i32_329 : BitVec 32 := 12#32
  let v402 : BitVec 32 := Scalar.addi v401 c12_i32_329
  let c16_i32_330 : BitVec 32 := 16#32
  let v403 : BitVec 32 := Scalar.remsi v402 c16_i32_330
  let c1_i32_334 : BitVec 32 := 1#32
  let v404 : BitVec 32 := Scalar.muli v403 c1_i32_334
  let v405 : BitVec 32 := Scalar.addi c0_i32_335 v404
  v405.toNat
def k0_dev30 (d0 : Dev nD) : Nat :=
  let c0_i32_349 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_342 : BitVec 32 := 1#32
  let v415 : BitVec 32 := Scalar.addi v2 c1_i32_342
  let c13_i32_343 : BitVec 32 := 13#32
  let v416 : BitVec 32 := Scalar.addi v415 c13_i32_343
  let c16_i32_344 : BitVec 32 := 16#32
  let v417 : BitVec 32 := Scalar.remsi v416 c16_i32_344
  let c1_i32_348 : BitVec 32 := 1#32
  let v418 : BitVec 32 := Scalar.muli v417 c1_i32_348
  let v419 : BitVec 32 := Scalar.addi c0_i32_349 v418
  v419.toNat
def k0_dev31 (d0 : Dev nD) : Nat :=
  let c0_i32_363 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_356 : BitVec 32 := 1#32
  let v429 : BitVec 32 := Scalar.addi v2 c1_i32_356
  let c14_i32_357 : BitVec 32 := 14#32
  let v430 : BitVec 32 := Scalar.addi v429 c14_i32_357
  let c16_i32_358 : BitVec 32 := 16#32
  let v431 : BitVec 32 := Scalar.remsi v430 c16_i32_358
  let c1_i32_362 : BitVec 32 := 1#32
  let v432 : BitVec 32 := Scalar.muli v431 c1_i32_362
  let v433 : BitVec 32 := Scalar.addi c0_i32_363 v432
  v433.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S512x256 : Shape := ⟨2, ![512, 256]⟩
abbrev S256x32 : Shape := ⟨2, ![256, 32]⟩
abbrev S512x2 : Shape := ⟨2, ![512, 2]⟩
abbrev S32x256x512 : Shape := ⟨3, ![32, 256, 512]⟩
abbrev S512x32 : Shape := ⟨2, ![512, 32]⟩
abbrev S_ : Shape := ⟨0, ![]⟩
abbrev S512 : Shape := ⟨1, ![512]⟩
abbrev S512x1 : Shape := ⟨2, ![512, 1]⟩
abbrev S512x256x512 : Shape := ⟨3, ![512, 256, 512]⟩
abbrev S512x512 : Shape := ⟨2, ![512, 512]⟩

abbrev nBuf : Space → Nat
  | .hbm => 87
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S256x32, .f32⟩
  | .hbm, ⟨2, _⟩ => ⟨S512x2, .i32⟩
  | .hbm, ⟨3, _⟩ => ⟨S32x256x512, .f32⟩
  | .hbm, ⟨4, _⟩ => ⟨S512x32, .f32⟩
  | .hbm, ⟨5, _⟩ => ⟨S_, .f32⟩
  | .hbm, ⟨6, _⟩ => ⟨S512, .f32⟩
  | .hbm, ⟨7, _⟩ => ⟨S512x1, .f32⟩
  | .hbm, ⟨8, _⟩ => ⟨S512x32, .f32⟩
  | .hbm, ⟨9, _⟩ => ⟨S512x32, .f32⟩
  | .hbm, ⟨10, _⟩ => ⟨S512x32, .f32⟩
  | .hbm, ⟨11, _⟩ => ⟨S_, .f32⟩
  | .hbm, ⟨12, _⟩ => ⟨S512, .f32⟩
  | .hbm, ⟨13, _⟩ => ⟨S512x1, .f32⟩
  | .hbm, ⟨14, _⟩ => ⟨S512x32, .f32⟩
  | .hbm, ⟨15, _⟩ => ⟨S512x32, .f32⟩
  | .hbm, ⟨16, _⟩ => ⟨S512x1, .i32⟩
  | .hbm, ⟨17, _⟩ => ⟨S512, .i32⟩
  | .hbm, ⟨18, _⟩ => ⟨S512x1, .i32⟩
  | .hbm, ⟨19, _⟩ => ⟨S512, .i32⟩
  | .hbm, ⟨20, _⟩ => ⟨S512, .i32⟩
  | .hbm, ⟨21, _⟩ => ⟨S_, .i32⟩
  | .hbm, ⟨22, _⟩ => ⟨S512, .i32⟩
  | .hbm, ⟨23, _⟩ => ⟨S512, .i1⟩
  | .hbm, ⟨24, _⟩ => ⟨S_, .i32⟩
  | .hbm, ⟨25, _⟩ => ⟨S512, .i32⟩
  | .hbm, ⟨26, _⟩ => ⟨S512, .i32⟩
  | .hbm, ⟨27, _⟩ => ⟨S512, .i32⟩
  | .hbm, ⟨28, _⟩ => ⟨S_, .i32⟩
  | .hbm, ⟨29, _⟩ => ⟨S512, .i32⟩
  | .hbm, ⟨30, _⟩ => ⟨S512, .i1⟩
  | .hbm, ⟨31, _⟩ => ⟨S_, .i32⟩
  | .hbm, ⟨32, _⟩ => ⟨S512, .i32⟩
  | .hbm, ⟨33, _⟩ => ⟨S512, .i32⟩
  | .hbm, ⟨34, _⟩ => ⟨S512, .i32⟩
  | .hbm, ⟨35, _⟩ => ⟨S512x1, .i32⟩
  | .hbm, ⟨36, _⟩ => ⟨S512x1, .i32⟩
  | .hbm, ⟨37, _⟩ => ⟨S512x2, .i32⟩
  | .hbm, ⟨38, _⟩ => ⟨S512, .f32⟩
  | .hbm, ⟨39, _⟩ => ⟨S_, .i32⟩
  | .hbm, ⟨40, _⟩ => ⟨S512, .i32⟩
  | .hbm, ⟨41, _⟩ => ⟨S512, .i1⟩
  | .hbm, ⟨42, _⟩ => ⟨S_, .i32⟩
  | .hbm, ⟨43, _⟩ => ⟨S512, .i32⟩
  | .hbm, ⟨44, _⟩ => ⟨S512, .i32⟩
  | .hbm, ⟨45, _⟩ => ⟨S512, .i32⟩
  | .hbm, ⟨46, _⟩ => ⟨S_, .i32⟩
  | .hbm, ⟨47, _⟩ => ⟨S512, .i32⟩
  | .hbm, ⟨48, _⟩ => ⟨S512, .i1⟩
  | .hbm, ⟨49, _⟩ => ⟨S_, .i32⟩
  | .hbm, ⟨50, _⟩ => ⟨S512, .i32⟩
  | .hbm, ⟨51, _⟩ => ⟨S512, .i32⟩
  | .hbm, ⟨52, _⟩ => ⟨S512, .i32⟩
  | .hbm, ⟨53, _⟩ => ⟨S512x1, .i32⟩
  | .hbm, ⟨54, _⟩ => ⟨S512x1, .i32⟩
  | .hbm, ⟨55, _⟩ => ⟨S512x2, .i32⟩
  | .hbm, ⟨56, _⟩ => ⟨S512, .f32⟩
  | .hbm, ⟨57, _⟩ => ⟨S512, .f32⟩
  | .hbm, ⟨58, _⟩ => ⟨S_, .i32⟩
  | .hbm, ⟨59, _⟩ => ⟨S512, .i32⟩
  | .hbm, ⟨60, _⟩ => ⟨S512, .i1⟩
  | .hbm, ⟨61, _⟩ => ⟨S_, .i32⟩
  | .hbm, ⟨62, _⟩ => ⟨S512, .i32⟩
  | .hbm, ⟨63, _⟩ => ⟨S512, .i32⟩
  | .hbm, ⟨64, _⟩ => ⟨S512, .i32⟩
  | .hbm, ⟨65, _⟩ => ⟨S512x1, .i32⟩
  | .hbm, ⟨66, _⟩ => ⟨S512x256x512, .f32⟩
  | .hbm, ⟨67, _⟩ => ⟨S512x512, .f32⟩
  | .hbm, ⟨68, _⟩ => ⟨S_, .i32⟩
  | .hbm, ⟨69, _⟩ => ⟨S512, .i32⟩
  | .hbm, ⟨70, _⟩ => ⟨S512, .i1⟩
  | .hbm, ⟨71, _⟩ => ⟨S_, .i32⟩
  | .hbm, ⟨72, _⟩ => ⟨S512, .i32⟩
  | .hbm, ⟨73, _⟩ => ⟨S512, .i32⟩
  | .hbm, ⟨74, _⟩ => ⟨S512, .i32⟩
  | .hbm, ⟨75, _⟩ => ⟨S512x1, .i32⟩
  | .hbm, ⟨76, _⟩ => ⟨S512x256x512, .f32⟩
  | .hbm, ⟨77, _⟩ => ⟨S512x512, .f32⟩
  | .hbm, ⟨78, _⟩ => ⟨S512, .f32⟩
  | .hbm, ⟨79, _⟩ => ⟨S512x1, .f32⟩
  | .hbm, ⟨80, _⟩ => ⟨S512x512, .f32⟩
  | .hbm, ⟨81, _⟩ => ⟨S512x512, .f32⟩
  | .hbm, ⟨82, _⟩ => ⟨S512, .f32⟩
  | .hbm, ⟨83, _⟩ => ⟨S512x1, .f32⟩
  | .hbm, ⟨84, _⟩ => ⟨S512x512, .f32⟩
  | .hbm, ⟨85, _⟩ => ⟨S512x512, .f32⟩
  | .hbm, ⟨86, _⟩ => ⟨S512x512, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_4 : Ref sig .tc := ⟨.hbm, 39, rfl⟩
abbrev main_v29 : Ref sig .tc := ⟨.hbm, 40, rfl⟩
abbrev main_v30 : Ref sig .tc := ⟨.hbm, 41, rfl⟩
abbrev main_c_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_6 : Ref sig .tc := ⟨.hbm, 46, rfl⟩
abbrev main_v34 : Ref sig .tc := ⟨.hbm, 47, rfl⟩
abbrev main_v35 : Ref sig .tc := ⟨.hbm, 48, rfl⟩
abbrev main_c_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c_8 : Ref sig .tc := ⟨.hbm, 58, rfl⟩
abbrev main_v44 : Ref sig .tc := ⟨.hbm, 59, rfl⟩
abbrev main_v45 : Ref sig .tc := ⟨.hbm, 60, rfl⟩
abbrev main_c_9 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_c_10 : Ref sig .tc := ⟨.hbm, 68, rfl⟩
abbrev main_v52 : Ref sig .tc := ⟨.hbm, 69, rfl⟩
abbrev main_v53 : Ref sig .tc := ⟨.hbm, 70, rfl⟩
abbrev main_c_11 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== Proof.Common.lean ====
/-
  The protocol of the kernel, stated once for every device: who signals and sends to whom, the semaphore cells, what each
  cell's one contribution is worth and hands over, what the kernel computes, what a device owes at launch, and the levels
  that order its waits.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.ValueLayout
public import Idealize.ShloMosaic.Lib.Tactic

@[expose] public section

noncomputable section

namespace Cert.MoE

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every counter zero. -/
def s₀ : MemSt nD τ sig (Elt F) := ⟨m, fun _ => 0, ρ⟩

/-! ## Who talks to whom -/

set_option backward.proofsInPublic true in
/-- The device the `k`-th copy of `c` goes to, -/
def up (c : Dev nD) (k : Fin 15) : Dev nD := ⟨(c.val + (1 + k.val)) % 16, Nat.mod_lt _ (by decide)⟩
set_option backward.proofsInPublic true in
/-- and the device whose `k`-th copy comes to `c` — the one `c` signals on its `k`-th credit semaphore. -/
def dn (c : Dev nD) (k : Fin 15) : Dev nD := ⟨(c.val + (15 - k.val)) % 16, Nat.mod_lt _ (by decide)⟩
set_option backward.proofsInPublic true in
/-- The device `c` signals at the barrier, -/
def nxt (c : Dev nD) : Dev nD := ⟨(c.val + 1) % 16, Nat.mod_lt _ (by decide)⟩
set_option backward.proofsInPublic true in
/-- and the one that signals it. -/
def prv (c : Dev nD) : Dev nD := ⟨(c.val + 15) % 16, Nat.mod_lt _ (by decide)⟩

theorem up_dn (c : Dev nD) (k : Fin 15) : up (dn c k) k = c := by
  apply Fin.ext; have h1 := c.isLt; have h2 := k.isLt; simp only [up, dn, nD] at *; omega
theorem dn_up (c : Dev nD) (k : Fin 15) : dn (up c k) k = c := by
  apply Fin.ext; have h1 := c.isLt; have h2 := k.isLt; simp only [up, dn, nD] at *; omega
theorem nxt_prv (c : Dev nD) : nxt (prv c) = c := by
  apply Fin.ext; have h1 := c.isLt; simp only [nxt, prv, nD] at *; omega
theorem prv_nxt (c : Dev nD) : prv (nxt c) = c := by
  apply Fin.ext; have h1 := c.isLt; simp only [nxt, prv, nD] at *; omega

/-- Each copy's route is a permutation of the devices, -/
def upE (k : Fin 15) : Dev nD ≃ Dev nD := ⟨(up · k), (dn · k), fun c => dn_up c k, fun c => up_dn c k⟩
/-- and so is the barrier's. -/
def nxtE : Dev nD ≃ Dev nD := ⟨nxt, prv, prv_nxt, nxt_prv⟩

/-! ## The buffers and the semaphores -/

abbrev xM : Memref sig .tc .vmem S512x256 .f32 := Memref.whole cc0_stg0_0
abbrev wM : Memref sig .tc .vmem S256x32 .f32 := Memref.whole cc0_stg1_0
abbrev iM : Memref sig .tc .vmem S512x2 .i32 := Memref.whole cc0_stg2_0
abbrev eM : Memref sig .tc .vmem S2x256x512 .f32 := Memref.whole cc0_stg3_0
abbrev oM : Memref sig .tc .vmem S32x512 .f32 := Memref.whole cc0_stg4_0
abbrev pM : Memref sig .tc .vmem S512x512 .bf16 := Memref.whole cc0_scratch0
abbrev rM : Memref sig .tc .vmem S15x32x512 .bf16 := Memref.whole cc0_scratch1
abbrev x2M : Memref sig .tc .vmem S1024x256 .f32 := Memref.whole cc0_scratch2
abbrev i2M : Memref sig .tc .vmem S1024x2 .i32 := Memref.whole cc0_scratch3

theorem inbP (j : Fin 16) : ∀ a, (![32 * j.val, 0] : Fin 2 → Nat) a + S32x512.size a ≤ S512x512.size a := by
  intro a; have := j.isLt
  match a with
  | ⟨0, _⟩ => show 32 * j.val + 32 ≤ 512; omega
  | ⟨1, _⟩ => show 0 + 512 ≤ 512; omega
theorem inbR (k : Fin 15) : ∀ a, (![k.val, 0, 0] : Fin 3 → Nat) a + S1x32x512.size a ≤ S15x32x512.size a := by
  intro a; have := k.isLt
  match a with
  | ⟨0, _⟩ => show k.val + 1 ≤ 15; omega
  | ⟨1, _⟩ => show 0 + 32 ≤ 32; omega
  | ⟨2, _⟩ => show 0 + 512 ≤ 512; omega

/-- Rows `32 j .. 32 j + 31` of the partial results, -/
abbrev rectP (j : Fin 16) : Rect S512x512 := Rect.unit (s := S512x512) ![32 * j.val, 0] S32x512.size (inbP j)
/-- and slot `k` of the receive buffer. -/
abbrev rectR (k : Fin 15) : Rect S15x32x512 := Rect.unit (s := S15x32x512) ![k.val, 0, 0] S1x32x512.size (inbR k)

abbrev pChunk (j : Fin 16) : Memref sig .tc .vmem S32x512 .bf16 := pM.slice (rectP j) (fun _ => rfl)
abbrev rSlot3 (k : Fin 15) : Memref sig .tc .vmem S1x32x512 .bf16 := rM.slice (rectR k) (fun _ => rfl)
abbrev rSlot (k : Fin 15) : Memref sig .tc .vmem S32x512 .bf16 := (rSlot3 k).squeeze S32x512 squeezes_S1x32x512_S32x512

/-- The chunk of the `k`-th copy. -/
abbrev ck (k : Fin 15) : Fin 16 := k.castSucc

/-- The semaphores of the `k`-th copy: its credit, its read-out, its landing; -/
def crS (k : Fin 15) : Sem sig := ⟨k.val, by have := k.isLt; show k.val < 16; omega⟩
def sdS (k : Fin 15) : DmaSem sig := ⟨5 + k.val, by have := k.isLt; show 5 + k.val < 35; omega⟩
def rvS (k : Fin 15) : DmaSem sig := ⟨20 + k.val, by have := k.isLt; show 20 + k.val < 35; omega⟩
/-- and the runtime's barrier semaphore. -/
abbrev barS : Sem sig := (SemArray.scalar (sig.barrier 0 rfl) : Sems sig S_).sem

/-- The kernel's own semaphores, by kind and copy; -/
abbrev OK : Type := Fin 15 ⊕ (Fin 15 ⊕ Fin 15)
/-- with the barrier, all the protocol uses. -/
abbrev KK : Type := OK ⊕ Unit

def osem : OK → SemLoc sig
  | .inl k => .reg (crS k)
  | .inr (.inl k) => .dma (sdS k)
  | .inr (.inr k) => .dma (rvS k)
def csem : KK → SemLoc sig
  | .inl o => osem o
  | .inr _ => .reg barS

/-- Which of them a semaphore is. -/
def kindOf : SemLoc sig → Option KK
  | .reg s => if h : s.val < 15 then some (.inl (.inl ⟨s.val, h⟩)) else some (.inr ())
  | .dma q => if q.val < 5 then none
      else if h : q.val - 5 < 15 then some (.inl (.inr (.inl ⟨q.val - 5, h⟩)))
      else if h : q.val - 20 < 15 then some (.inl (.inr (.inr ⟨q.val - 20, h⟩))) else none

theorem kindOf_csem : ∀ k : KK, kindOf (csem k) = some k
  | .inl (.inl k) => by simp only [csem, osem, kindOf, crS, k.isLt, dif_pos]
  | .inl (.inr (.inl k)) => by
      have := k.isLt
      simp only [csem, osem, kindOf, sdS]
      rw [if_neg (by omega), dif_pos (by omega)]; simp only [Nat.add_sub_cancel_left]
  | .inl (.inr (.inr k)) => by
      have := k.isLt
      simp only [csem, osem, kindOf, rvS]
      rw [if_neg (by omega), dif_neg (by omega), dif_pos (by omega)]; simp only [Nat.add_sub_cancel_left]
  | .inr () => rfl

theorem csem_injective : Function.Injective csem := fun a b h => by
  have := congrArg kindOf h; rw [kindOf_csem, kindOf_csem] at this; exact Option.some.inj this

abbrev kcell (x : Dev nD × KK) : GSem nD τ sig := ((x.1 : Thread nD τ), csem x.2)
abbrev crCell (c : Dev nD) (k : Fin 15) : GSem nD τ sig := ((c : Thread nD τ), .reg (crS k))
abbrev sdCell (c : Dev nD) (k : Fin 15) : GSem nD τ sig := ((c : Thread nD τ), .dma (sdS k))
abbrev rvCell (c : Dev nD) (k : Fin 15) : GSem nD τ sig := ((c : Thread nD τ), .dma (rvS k))
abbrev barCell (c : Dev nD) : GSem nD τ sig := ((c : Thread nD τ), .reg barS)

theorem kcell_injective : Function.Injective (kcell : Dev nD × KK → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- What one copy of a chunk credits: the same through the chunk as through the slot. -/
@[irreducible] def N : ℕ := (rSlot 0).view.dmaCredit
theorem N_pos : 0 < N := by unfold N; exact View.dmaCredit_pos _ (by decide)
theorem N_slot (k : Fin 15) : (rSlot k).view.dmaCredit = N := by unfold N; rfl
theorem N_chunk (j : Fin 16) : (pChunk j).view.dmaCredit = N := by unfold N; rfl

/-! ## What the kernel computes -/

/-- The operands as the pipeline stages them on device `c`. -/
def xs (c : Dev nD) : (cc0_stg0_0 : Ref sig .tc).ty.Contents (Elt F) := (win0_0.blk (0 : Fin 1)).view.read (Elt F) ((s₀ m ρ).mem ((c : Thread nD τ).loc main_arg0))
def ws (c : Dev nD) : (cc0_stg1_0 : Ref sig .tc).ty.Contents (Elt F) := (win0_1.blk (0 : Fin 1)).view.read (Elt F) ((s₀ m ρ).mem ((c : Thread nD τ).loc main_arg1))
def is (c : Dev nD) : (cc0_stg2_0 : Ref sig .tc).ty.Contents (Elt F) := (win0_2.blk (0 : Fin 1)).view.read (Elt F) ((s₀ m ρ).mem ((c : Thread nD τ).loc main_arg2))
def es (c : Dev nD) : (cc0_stg3_0 : Ref sig .tc).ty.Contents (Elt F) := (win0_3.blk (0 : Fin 1)).view.read (Elt F) ((s₀ m ρ).mem ((c : Thread nD τ).loc main_arg3))

/-- Rows rotated: row `y` of the result is row `y + 32 (c + 1)` of the operand, around the end. -/
def rot {α : Type} {w : ℕ} (c : Dev nD) (v : (⟨2, ![512, w]⟩ : Shape).Idx → α) : (⟨2, ![512, w]⟩ : Shape).Idx → α :=
  fun y => v (ix2 (⟨((y 0).val + 32 * ((c.val + 1) % 16)) % 512, Nat.mod_lt _ (by decide)⟩ : Fin 512) (y 1))

def xr (c : Dev nD) : Vec F S512x256 .f32 := rot c (xs m ρ c)
def ir (c : Dev nD) : Vec F S512x2 .i32 := rot c (is m ρ c)

/-- The device's two experts. -/
def ew0 (c : Dev nD) : Vec F S1x256x512 .f32 :=
  eM.view.readAt (Elt F) (Rect.unit (s := S2x256x512) ![0, 0, 0] S1x256x512.size inb_S2x256x512_S1x256x512_0_0_0).toLoadRect (es m ρ c)
def ew1 (c : Dev nD) : Vec F S1x256x512 .f32 :=
  eM.view.readAt (Elt F) (Rect.unit (s := S2x256x512) ![1, 0, 0] S1x256x512.size inb_S2x256x512_S1x256x512_1_0_0).toLoadRect (es m ρ c)

/-- The device's number as the kernel computes it, -/
def word (c : Dev nD) : BitVec 32 := Scalar.remsi (Scalar.divsi (Dev.word c) 1#32) 16#32
/-- the expert numbers, -/
def cols : IVec S512x32 32 := iota .tc S512x32 32 [1] iota_S512x32_d1_w32
/-- the gates. -/
def gates (c : Dev nD) : FVec F S512x32 .f32 := k0_pay5 (xr m ρ c) (ir m ρ c) (ws m ρ c)

/-- The partial results: rows 0 to 255, -/
def pT (c : Dev nD) : Vec F S256x512 .bf16 := k0_pay11 (word c) (xr m ρ c) cols (gates m ρ c) (ew0 m ρ c) (ew1 m ρ c)
/-- and rows 256 to 511. -/
def pB (c : Dev nD) : Vec F S256x512 .bf16 :=
  k0_pay12 (k0_pay6 (word c) cols (gates m ρ c)) (k0_pay7 (word c) cols (gates m ρ c)) (k0_pay8 (ew0 m ρ c)) (k0_pay9 (ew1 m ρ c)) (k0_pay10 (xr m ρ c))

set_option backward.proofsInPublic true in
/-- Both, one buffer. -/
def pfin (c : Dev nD) : (cc0_scratch0 : Ref sig .tc).ty.Contents (Elt F) := fun i =>
  if h : (show Fin 512 from i 0).val < 256 then pT m ρ c (ix2 (⟨(show Fin 512 from i 0).val, h⟩ : Fin 256) (show Fin 512 from i 1))
  else pB m ρ c (ix2 (⟨(show Fin 512 from i 0).val - 256, by have := (show Fin 512 from i 0).isLt; omega⟩ : Fin 256) (show Fin 512 from i 1))

/-- Chunk `j` of it. -/
def chunkVal (c : Dev nD) (j : Fin 16) : Vec F S32x512 .bf16 := (pChunk j).view.read (Elt F) (pfin m ρ c)

/-- The one operand a slot of `c` gets: as a load of the slot reads it. -/
def slotVal (c : Dev nD) (k : Fin 15) : Vec F S1x32x512 .bf16 :=
  fun x => chunkVal m ρ (dn c k) (ck k) ((Shape.reshapeEquiv squeezes_S1x32x512_S32x512.numel_eq).symm x)

/-- The kernel's result on device `c`: its own last chunk and what it received, added in the order of the copies. -/
def outAt (c : Dev nD) : (cc0_stg4_0 : Ref sig .tc).ty.Contents (Elt F) :=
  let s := slotVal m ρ c
  k0_pay19 (k0_pay18 (k0_pay17 (k0_pay16 (k0_pay15 (k0_pay14 (k0_pay13 (chunkVal m ρ c 15) (s 0) (s 1)) (s 2) (s 3)) (s 4) (s 5)) (s 6) (s 7) (s 8)) (s 9) (s 10)) (s 11) (s 12)) (s 13) (s 14)

end Cert.MoE

end
-- ==== Proof.Sched.lean ====
/-
  The schedule of the semaphore cells — each gets one contribution — what a device owes at launch, the levels that order
  the waits, and the pipeline's proof data.
-/
module

public import proofs.«01_k».proof.Proof.Common

@[expose] public section

noncomputable section

namespace Cert.MoE

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The first and the last of the fifteen -/

/-- The copies from the `k`-th on, -/
def fr (k : ℕ) : Finset (Fin 15) := Finset.univ.filter (k ≤ ·.val)
/-- and those before it. -/
def til (k : ℕ) : Finset (Fin 15) := Finset.univ.filter (·.val < k)

theorem fr_zero : fr 0 = Finset.univ := Finset.filter_true_of_mem fun _ _ => Nat.zero_le _
theorem fr_end : fr 15 = ∅ := Finset.filter_false_of_mem fun k _ => by have := k.isLt; omega
theorem til_zero : til 0 = ∅ := Finset.filter_false_of_mem fun k _ => Nat.not_lt_zero _
theorem til_end : til 15 = Finset.univ := Finset.filter_true_of_mem fun k _ => k.isLt
theorem not_mem_fr (k : Fin 15) : k ∉ fr (k.val + 1) := by simp [fr]
theorem fr_step (k : Fin 15) : fr k.val = insert k (fr (k.val + 1)) := by
  ext j; simp only [fr, Finset.mem_filter, Finset.mem_univ, true_and, Finset.mem_insert, Fin.ext_iff]; omega
theorem not_mem_til (k : Fin 15) : k ∉ til k.val := by simp [til]
theorem til_step (k : Fin 15) : til (k.val + 1) = insert k (til k.val) := by
  ext j; simp only [til, Finset.mem_filter, Finset.mem_univ, true_and, Finset.mem_insert, Fin.ext_iff]; omega
theorem mem_til (k : Fin 15) (n : ℕ) (h : k.val < n) : k ∈ til n := by simp [til, h]

omit [FloatOps F] in
theorem fr_take (k : Fin 15) (Φ : Fin 15 → sProp 𝕄) : bigSep (fr k.val) Φ = iprop(Φ k ∗ bigSep (fr (k.val + 1)) Φ) := by
  rw [fr_step, bigSep_insert (not_mem_fr k)]; rfl
omit [FloatOps F] in
theorem til_put (k : Fin 15) (Φ : Fin 15 → sProp 𝕄) : bigSep (til (k.val + 1)) Φ = iprop(Φ k ∗ bigSep (til k.val) Φ) := by
  rw [til_step, bigSep_insert (not_mem_til k)]; rfl

/-! ## What is handed over -/

/-- Slot `k` of `d`'s receive buffer, at any contents; -/
def slotAny (d : Dev nD) (k : Fin 15) : sProp 𝕄 :=
  iprop(∃ f, (rSlot k).view.loc (d : Thread nD τ) ↦[(rSlot k).view.set]{fullShare} f)
/-- landed: its one operand is the chunk its sender computed. -/
def slotIn (d : Dev nD) (k : Fin 15) : sProp 𝕄 :=
  iprop(∃ f, ⌜(rSlot k).view.read (Elt F) f = chunkVal m ρ (dn d k) (ck k)⌝ ∗ (rSlot k).view.loc (d : Thread nD τ) ↦[(rSlot k).view.set]{fullShare} f)
/-- Chunk `j` of `d`'s partial results, at any contents; -/
def chunkAny (d : Dev nD) (j : Fin 16) : sProp 𝕄 :=
  iprop(∃ f, (pChunk j).view.loc (d : Thread nD τ) ↦[(pChunk j).view.set]{fullShare} f)
/-- computed. -/
def chunkIn (d : Dev nD) (j : Fin 16) : sProp 𝕄 :=
  iprop((pChunk j).view.loc (d : Thread nD τ) ↦[(pChunk j).view.set]{fullShare} pfin m ρ d)

omit [FloatOps F] in
instance slotAny_storable (d : Dev nD) (k) : BI.Storable (upEmb : UEmb _ 𝕄) (slotAny (F := F) d k) := by unfold slotAny; infer_instance
instance slotIn_storable (d : Dev nD) (k) : BI.Storable (upEmb : UEmb _ 𝕄) (slotIn m ρ d k) := by unfold slotIn; infer_instance
omit [FloatOps F] in
instance chunkAny_storable (d : Dev nD) (k) : BI.Storable (upEmb : UEmb _ 𝕄) (chunkAny (F := F) d k) := by unfold chunkAny; infer_instance

/-! ## The schedule -/

def payOf (d : Dev nD) : KK → sProp 𝕄
  | .inl (.inl k) => slotAny (up d k) k
  | .inl (.inr (.inl k)) => chunkAny d (ck k)
  | .inl (.inr (.inr k)) => slotIn m ρ d k
  | .inr _ => iprop(emp)

theorem payOf_cr (d : Dev nD) (k) : payOf m ρ d (.inl (.inl k)) = slotAny (up d k) k := rfl
theorem payOf_sd (d : Dev nD) (k) : payOf m ρ d (.inl (.inr (.inl k))) = chunkAny d (ck k) := rfl
theorem payOf_rv (d : Dev nD) (k) : payOf m ρ d (.inl (.inr (.inr k))) = slotIn m ρ d k := rfl
theorem payOf_bar (d : Dev nD) (u) : payOf m ρ d (.inr u) = iprop(emp) := rfl

def amtOf : KK → ℕ
  | .inl (.inl _) => 1
  | .inl (.inr _) => N
  | .inr _ => 1

theorem amtOf_pos : ∀ k, 0 < amtOf k
  | .inl (.inl _) => Nat.one_pos
  | .inl (.inr _) => N_pos
  | .inr _ => Nat.one_pos

instance payOf_storable (d : Dev nD) : ∀ k, BI.Storable (upEmb : UEmb _ 𝕄) (payOf m ρ d k)
  | .inl (.inl k) => by unfold payOf; infer_instance
  | .inl (.inr (.inl k)) => by unfold payOf; infer_instance
  | .inl (.inr (.inr k)) => by unfold payOf; infer_instance
  | .inr _ => by unfold payOf; infer_instance

def rd : Rounds.Schedule (GSem nD τ sig) Unit 𝕄 where
  duties g r := if r = 0 ∧ g.1.2 = .tc ∧ (kindOf g.2).isSome then {()} else ∅
  unitless _ := False
  amount g _ _ := match kindOf g.2 with | some k => amtOf k | none => 1
  payload g _ _ := match kindOf g.2 with | some k => payOf m ρ g.1.1 k | none => iprop(emp)
  amount_pos g _ _ _ := by
    split
    · exact amtOf_pos _
    · exact Nat.one_pos

instance rd_payload_storable (g : GSem nD τ sig) (r : ℕ) (d : Unit) : BI.Storable (upEmb : UEmb _ 𝕄) ((rd m ρ).payload g r d) := by
  show BI.Storable upEmb (match kindOf g.2 with | some k => payOf m ρ g.1.1 k | none => iprop(emp))
  split <;> infer_instance

theorem duties_at (x : Dev nD × KK) : (rd m ρ).duties (kcell x) 0 = {()} := by
  dsimp only [rd]; exact if_pos ⟨rfl, rfl, by rw [kindOf_csem]; rfl⟩
theorem duties_later (g : GSem nD τ sig) : ∀ r, 1 ≤ r → (rd m ρ).duties g r = ∅ :=
  fun r hr => by dsimp only [rd]; exact if_neg fun h => by omega
theorem amount_at (x : Dev nD × KK) (d : Unit) : (rd m ρ).amount (kcell x) 0 d = amtOf x.2 := by
  dsimp only [rd]; rw [kindOf_csem]
theorem payload_at (x : Dev nD × KK) (d : Unit) : (rd m ρ).payload (kcell x) 0 d = payOf m ρ x.1 x.2 := by
  dsimp only [rd]; rw [kindOf_csem]
theorem expect_at (x : Dev nD × KK) : (rd m ρ).expect (kcell x) 0 = amtOf x.2 := by
  unfold Schedule.expect Schedule.amountOf; rw [duties_at, Finset.sum_singleton, amount_at]
theorem mem_duties (x : Dev nD × KK) : () ∈ (rd m ρ).duties (kcell x) 0 := by rw [duties_at]; exact Finset.mem_singleton_self _
/-- The whole of a cell's one round is its one payload. -/
theorem rest_at (x : Dev nD × KK) :
    bigSep ((rd m ρ).duties (kcell x) 0 \ ∅) (fun d => (rd m ρ).payload (kcell x) 0 d) = payOf m ρ x.1 x.2 := by
  rw [Finset.sdiff_empty, duties_at, bigSep_singleton, payload_at]

/-! ## What each device owes; the levels -/

/-- The landings of the copies from the `k`-th on; -/
def OR (c : Dev nD) (k : ℕ) : CellTallies nD τ sig Unit := ∑ j ∈ fr k, tallyAt (rvCell (up c j) j) () N
/-- all of them, the barrier's signal and the credits from the `k`-th on. -/
def OS (c : Dev nD) (k : ℕ) : CellTallies nD τ sig Unit :=
  OR c 0 + tallyAt (barCell (nxt c)) () 1 + ∑ j ∈ fr k, tallyAt (crCell (dn c j) j) () 1
def O₀ (c : Dev nD) : CellTallies nD τ sig Unit := OS c 0

theorem OR_step (c : Dev nD) (k : Fin 15) : OR c k.val = OR c (k.val + 1) + tallyAt (rvCell (up c k) k) () N := by
  unfold OR; rw [fr_step, Finset.sum_insert (not_mem_fr k), add_comm]
theorem OR_end (c : Dev nD) : OR c 15 = 0 := by unfold OR; rw [fr_end, Finset.sum_empty]
theorem OS_step (c : Dev nD) (k : Fin 15) : OS c k.val = OS c (k.val + 1) + tallyAt (crCell (dn c k) k) () 1 := by
  unfold OS; rw [fr_step, Finset.sum_insert (not_mem_fr k), add_comm (tallyAt (crCell (dn c k) k) () 1), ← add_assoc]
theorem OS_end (c : Dev nD) : OS c 15 = OR c 0 + tallyAt (barCell (nxt c)) () 1 := by unfold OS; rw [fr_end, Finset.sum_empty, add_zero]

def L (g : GSem nD τ sig) : Finset Unit := if g.1.2 = .tc then {()} else ∅
/-- The barrier and the credits at 1, landings at 2, everything else at 0. -/
def lvOf : Option KK → ℕ
  | some (.inl (.inl _)) => 1
  | some (.inl (.inr (.inl _))) => 0
  | some (.inl (.inr (.inr _))) => 2
  | some (.inr _) => 1
  | none => 0
def lv (g : GSem nD τ sig) (_ : Unit) : ℕ := lvOf (kindOf g.2)

theorem L_of_ne (g : GSem nD τ sig) (h : g.1.2 ≠ .tc) : L g = ∅ := if_neg h
theorem lv_at (x : Dev nD × KK) (u : Unit) : lv (kcell x) u = lvOf (some x.2) := by unfold lv; rw [kindOf_csem]

/-- A tally summed over cells is positive only at one of them. -/
theorem sum_pos {S : Finset (Fin 15)} {f : Fin 15 → GSem nD τ sig} {n : ℕ} {g : GSem nD τ sig} {u : Unit}
    (h : 0 < (∑ j ∈ S, tallyAt (f j) () n : CellTallies nD τ sig Unit) g u) : ∃ j, g = f j := by
  rw [Finset.sum_apply, Finsupp.finset_sum_apply] at h
  obtain ⟨j, -, hj⟩ := Finset.exists_ne_zero_of_sum_ne_zero (Nat.pos_iff_ne_zero.mp h)
  refine ⟨j, ?_⟩
  by_contra hn
  rw [tallyAt_apply, if_neg (fun h' => hn h'.1)] at hj
  exact hj rfl

theorem OR_pos {c : Dev nD} {k : ℕ} {g : GSem nD τ sig} {u : Unit} (h : 0 < OR c k g u) : ∃ j, g = rvCell (up c j) j := sum_pos h

theorem O₀_pos {c : Dev nD} {g : GSem nD τ sig} {u : Unit} (h : 0 < O₀ c g u) :
    (∃ j, g = rvCell (up c j) j) ∨ g = barCell (nxt c) ∨ ∃ j, g = crCell (dn c j) j := by
  unfold O₀ OS at h
  rw [Pi.add_apply, Finsupp.add_apply, Pi.add_apply, Finsupp.add_apply] at h
  by_cases h1 : 0 < OR c 0 g u
  · exact Or.inl (OR_pos h1)
  by_cases h2 : g = barCell (nxt c)
  · exact Or.inr (Or.inl h2)
  · rw [tallyAt_apply, if_neg (fun h' => h2 h'.1)] at h
    exact Or.inr (Or.inr (sum_pos (S := fr 0) (n := 1) (u := u) (by omega)))

omit [FloatOps F] in
/-- A device may wait where everything it owes lies higher. -/
theorem mayWait (c : Dev nD) (sm : SemLoc sig) (O : CellTallies nD τ sig Unit)
    (h : ∀ (g : GSem nD τ sig) (u : Unit), 0 < O g u → g.1.2 = .tc ∧ lv ((c : Thread nD τ), sm) () < lv g u) :
    (levAts L lv : sProp 𝕄) ⊢ MayWait (c : Thread nD τ) sm () O :=
  MayOwe.of_cut (L := L) (lev := lv) (lv ((c : Thread nD τ), sm) ())
    (fun p hp => by rw [Finset.mem_singleton.mp hp]; unfold L; rw [if_pos rfl]; exact Finset.mem_singleton_self _)
    (fun g u hg => by unfold L; rw [if_pos (h g u hg).1]; exact Finset.mem_singleton_self _)
    (fun p hp => by rw [Finset.mem_singleton.mp hp])
    (fun g u hg => (h g u hg).2)

omit [FloatOps F] in
/-- The credits and the barrier: owing landings only. -/
theorem mayWait_low (c : Dev nD) (x : KK) (hx : lvOf (some x) = 1) (k : ℕ) :
    (levAts L lv : sProp 𝕄) ⊢ MayWait (c : Thread nD τ) (csem x) () (OR c k) :=
  mayWait c _ _ fun g u hg => by
    obtain ⟨j, rfl⟩ := OR_pos hg
    refine ⟨rfl, ?_⟩
    rw [show lv ((c : Thread nD τ), csem x) () = 1 from (lv_at (c, x) ()).trans hx,
      show lv (rvCell (up c j) j) u = 2 from lv_at (up c j, .inl (.inr (.inr j))) u]
    decide

omit [FloatOps F] in
/-- The staging copies: owing anything. -/
theorem mayWait_stage (c : Dev nD) (q : DmaSem sig) (hq : q.val < 5) (O : CellTallies nD τ sig Unit) (hO : O = O₀ c ∨ O = 0) :
    (levAts L lv : sProp 𝕄) ⊢ MayWait (c : Thread nD τ) (.dma q) () O := by
  have hl : lv ((c : Thread nD τ), .dma q) () = 0 := by simp only [lv, kindOf, if_pos hq, lvOf]
  refine mayWait c _ _ fun g u hg => ?_
  rw [hl]
  rcases hO with rfl | rfl
  · rcases O₀_pos hg with ⟨j, rfl⟩ | rfl | ⟨j, rfl⟩
    · exact ⟨rfl, by rw [show lv (rvCell (up c j) j) u = 2 from lv_at (up c j, .inl (.inr (.inr j))) u]; decide⟩
    · exact ⟨rfl, by rw [show lv (barCell (nxt c)) u = 1 from lv_at (nxt c, .inr ()) u]; decide⟩
    · exact ⟨rfl, by rw [show lv (crCell (dn c j) j) u = 1 from lv_at (dn c j, .inl (.inl j)) u]; decide⟩
  · exact absurd hg (Nat.lt_irrefl 0)

/-! ## The ghost state of a device -/

/-- What every device knows: every cell's invariant, and that every cell's one round has begun. -/
def records (K : Dev nD × KK → ℕ) : sProp 𝕄 :=
  iprop((bigSep Finset.univ fun x : Dev nD × KK => cellInv ER (rd m ρ) (K x) (kcell x))
    ∗ bigSep Finset.univ fun x : Dev nD × KK => reached ER (kcell x) 0)

instance records_persistent (K : Dev nD × KK → ℕ) : BI.Persistent (records m ρ K) := by unfold records; infer_instance

theorem inv_at (K : Dev nD × KK → ℕ) (x : Dev nD × KK) : records m ρ K ⊢ cellInv ER (rd m ρ) (K x) (kcell x) := by
  unfold records
  iintro ⟨H, -⟩
  iapply (show _ ⊢ _ from bigSep_elim (Φ := fun x : Dev nD × KK => (cellInv ER (rd m ρ) (K x) (kcell x) : sProp 𝕄)) (Finset.mem_univ x)) $$ H
theorem reached_at (K : Dev nD × KK → ℕ) (x : Dev nD × KK) : records m ρ K ⊢ reached ER (kcell x) 0 := by
  unfold records
  iintro ⟨-, H⟩
  iapply (show _ ⊢ _ from bigSep_elim (Φ := fun x : Dev nD × KK => (reached ER (kcell x) 0 : sProp 𝕄)) (Finset.mem_univ x)) $$ H

/-- The tokens of what a device contributes, by kind: to the credit of its `k`-th sender, to its own read-out, to the
    landing at its `k`-th receiver, to its neighbour's barrier. -/
def payTok (c : Dev nD) : KK → sProp 𝕄
  | .inl (.inl k) => dutyTok ER (crCell (dn c k) k) 0 ()
  | .inl (.inr (.inl k)) => dutyTok ER (sdCell c k) 0 ()
  | .inl (.inr (.inr k)) => dutyTok ER (rvCell (up c k) k) 0 ()
  | .inr _ => dutyTok ER (barCell (nxt c)) 0 ()

/-- What is the device's own: its positions and those tokens. -/
def linear (c : Dev nD) : sProp 𝕄 :=
  iprop((bigSep Finset.univ fun k : KK => atPos ER (kcell (c, k)) 0 ∅ 0) ∗ bigSep Finset.univ (payTok c))

/-- What a device may wait for: its credits, its landings, its barrier. -/
def creds (c : Dev nD) : sProp 𝕄 :=
  iprop((bigSep Finset.univ fun k : Fin 15 => cred (tallyAt (crCell c k) () 1)) ∗ (bigSep Finset.univ fun k : Fin 15 => cred (tallyAt (rvCell c k) () N))
    ∗ cred (tallyAt (barCell c) () 1))

/-- What device `c`'s body starts from, besides the buffers. -/
def start (c : Dev nD) : sProp 𝕄 := iprop((∃ K, records m ρ K ∗ linear c) ∗ creds c ∗ levAts L lv)

/-- A whole buffer of device `c`, at some contents. -/
abbrev anyAt (c : Dev nD) (b : Ref sig .tc) : sProp 𝕄 := iprop(∃ f : Buf (Elt F) ((c : Thread nD τ).loc b), ((c : Thread nD τ).loc b) ↦{fullShare} f)
abbrev scratch (c : Dev nD) : sProp 𝕄 := iprop(anyAt (F := F) c cc0_scratch0 ∗ anyAt (F := F) c cc0_scratch1 ∗ anyAt (F := F) c cc0_scratch2 ∗ anyAt (F := F) c cc0_scratch3)

def Φ₀ (c : Dev nD) : sProp 𝕄 := iprop(start m ρ c ∗ scratch (F := F) c)
/-- After the body: the scratch buffers, and every cell closed at zero. -/
def Φ₁ (c : Dev nD) : sProp 𝕄 := iprop(scratch (F := F) c ∗ bigSep Finset.univ fun k : KK => semVal (kcell (c, k)) 0)

/-! ## The pipeline's proof data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m ρ c
    | ⟨1, _⟩ => ws m ρ c
    | ⟨2, _⟩ => is m ρ c
    | ⟨3, _⟩ => es m ρ c
    | ⟨4, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

end Cert.MoE

end
-- ==== Proof.Steps.lean ====
/-
  The steps of the kernel's phases, each proved once for a device and a copy: a credit given, a credit taken, a chunk sent,
  a landing awaited and read, a read-out awaited.
-/
module

public import proofs.«01_k».proof.Proof.Sched

@[expose] public section

noncomputable section

namespace Cert.MoE

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What a device owes, at whatever waits it has recorded. -/
def owesE (c : Dev nD) (O : CellTallies nD τ sig Unit) : sProp 𝕄 := iprop(∃ W, owes (c : Thread nD τ) O W)

/-- The rest of a program on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (K : Dev nD × KK → ℕ) (c : Dev nD)

/-- What every step may use. -/
def ctx : sProp 𝕄 := iprop(records m ρ K ∗ levAts L lv)
instance ctx_persistent : BI.Persistent (ctx m ρ K) := by unfold ctx; infer_instance

variable {α : Type}

/-- A wait on a cell of `c`: it takes the cell's one round, closes the cell and hands over the payload. -/
theorem wait_close (x : KK) (O : CellTallies nD τ sig Unit) {w : TpuEff nD τ sig (Elt F) Λ₀ .tc PUnit}
    (hw : ∀ R : PUnit → sProp 𝕄, wpE (defs₀ (F := F)) 𝒱₀ (c : Thread nD τ) none Set.univ w R = waitSpec (c : Thread nD τ) Set.univ (csem x) (amtOf x) R)
    (hO : (levAts L lv : sProp 𝕄) ⊢ MayWait (c : Thread nD τ) (csem x) () O)
    {k : PUnit → Prog (TpuEff nD τ sig (Elt F) Λ₀ .tc) α} {Q : α → sProp 𝕄} :
    iprop(ctx m ρ K ∗ cred (tallyAt (kcell (c, x)) () (amtOf x)) ∗ owesE c O ∗ atPos ER (kcell (c, x)) 0 ∅ 0)
      ⊢ iprop((owesE c O ∗ semVal (kcell (c, x)) 0 ∗ payOf m ρ c x -∗ WP c (k ⟨⟩) Q) -∗ WP c (.op w k) Q) := by
  unfold ctx owesE
  iintro ⟨⟨#Hrec, #Hlev⟩, Hc, ⟨%W, HO⟩, Hat⟩ Hk
  iapply (Rounds.wp_wait_rest_token 𝒱₀ ER (rd m ρ) (c : Thread nD τ) none (κ := K (c, x)) hw (Set.mem_univ _) () (O := O) (W := W) (R := 0) (m := 0) (T := ∅)
      (by rw [Nat.zero_add]; exact (expect_at m ρ (c, x)).symm)) $$ [Hc HO Hat]
  · isplitr; · iapply (inv_at m ρ K (c, x)); iexact Hrec
    isplitl [Hc]; · iexact Hc
    isplitl [HO]; · iexact HO
    isplitr; · iapply hO; iexact Hlev
    iexact Hat
  iintro ⟨HO, Hat, -, Hpay⟩
  ihave Hp := (Entails.of_eq (rest_at m ρ (c, x))) $$ Hpay
  imod (Rounds.cell_close ER (rd m ρ) (Set.mem_univ (K (c, x))) (fun h => h) (R := 0 + 1) (duties_later m ρ (kcell (c, x)))) $$ [Hat] with Hz
  · isplitr; · iapply (inv_at m ρ K (c, x)); iexact Hrec
    iexact Hat
  iapply Hk
  isplitl [HO]; · iexists _; iexact HO
  isplitl [Hz]; · iexact Hz
  iexact Hp

/-- A signal to a cell of `d`, of one unit. -/
theorem signal (d : Dev nD) (x : KK) (s : Sem sig) (hs : csem x = .reg s) (hx : amtOf x = 1) (O O' : CellTallies nD τ sig Unit)
    (hO : O' = O + tallyAt (kcell (d, x)) () 1) {k : PUnit → Prog (TpuEff nD τ sig (Elt F) Λ₀ .tc) α} {Q : α → sProp 𝕄} :
    iprop(ctx m ρ K ∗ owesE c O' ∗ dutyTok ER (kcell (d, x)) 0 () ∗ payOf m ρ d x)
      ⊢ iprop((owesE c O -∗ WP c (k ⟨⟩) Q) -∗ WP c (.op (.semSignal (d : Thread nD τ) s (1#32).toInt) k) Q) := by
  have hg : kcell (d, x) = ((d : Thread nD τ), .reg s) := by unfold kcell; rw [hs]
  unfold ctx owesE
  iintro ⟨⟨#Hrec, #Hlev⟩, ⟨%W, HO⟩, Ht, Hp⟩ Hk
  ihave #HI := (inv_at m ρ K (d, x)) $$ Hrec
  ihave #HR := (reached_at m ρ K (d, x)) $$ Hrec
  have hm := mem_duties m ρ (d, x)
  have ha := amount_at m ρ (d, x) ()
  have hpay := payload_at m ρ (d, x) ()
  rw [hg] at hm ha hpay hO ⊢
  iapply (Rounds.wp_signal 𝒱₀ ER (rd m ρ) (c : Thread nD τ) none (dst := (d : Thread nD τ)) (κ := K (d, x))
      (d := ()) hm (ha.trans (hx.trans (by decide))) () O hO) $$ [HO Ht Hp]
  · isplitr; · iexact HI
    isplitl [HO]; · iexact HO
    isplitl [Ht]; · iexact Ht
    isplitl [Hp]; · rw [hpay]; iexact Hp
    iexact HR
  iintro HO
  iapply Hk
  iexists W; iexact HO

/-! ## Giving credits -/

/-- With the credits from the `k`-th on still to give: their tokens, and the slots they offer. -/
def SS (k : ℕ) : sProp 𝕄 :=
  iprop((bigSep (fr k) fun j => iprop(dutyTok ER (crCell (dn c j) j) 0 () ∗ slotAny c j)) ∗ owesE c (OS c k))

theorem step_signal (k : Fin 15) (d : Dev nD) (hd : d = dn c k) (s : Sem sig) (hs : s = crS k)
    {kt : PUnit → Prog (TpuEff nD τ sig (Elt F) Λ₀ .tc) α} {Q : α → sProp 𝕄} :
    iprop(ctx m ρ K ∗ SS c k.val) ⊢ iprop((SS c (k.val + 1) -∗ WP c (kt ⟨⟩) Q) -∗ WP c (.op (.semSignal (d : Thread nD τ) s (1#32).toInt) kt) Q) := by
  subst hd hs
  unfold SS
  rw [fr_take]
  iintro ⟨#Hctx, ⟨⟨Ht, Hs⟩, Hrest⟩, HO⟩ Hk
  iapply (signal m ρ K c (dn c k) (.inl (.inl k)) (crS k) rfl rfl (OS c (k.val + 1)) (OS c k.val) (OS_step c k)) $$ [HO Ht Hs]
  · isplitr; · iexact Hctx
    isplitl [HO]; · iexact HO
    isplitl [Ht]; · iexact Ht
    rw [payOf_cr, up_dn]; iexact Hs
  iintro HO
  iapply Hk
  isplitl [Hrest]; · iexact Hrest
  iexact HO

/-! ## The barrier -/

theorem step_barrier_signal (d : Dev nD) (hd : d = nxt c) (s : Sem sig) (hs : s = barS)
    {kt : PUnit → Prog (TpuEff nD τ sig (Elt F) Λ₀ .tc) α} {Q : α → sProp 𝕄} :
    iprop(ctx m ρ K ∗ owesE c (OS c 15) ∗ dutyTok ER (barCell (nxt c)) 0 ())
      ⊢ iprop((owesE c (OR c 0) -∗ WP c (kt ⟨⟩) Q) -∗ WP c (.op (.semSignal (d : Thread nD τ) s (1#32).toInt) kt) Q) := by
  subst hd hs
  iintro ⟨#Hctx, HO, Ht⟩ Hk
  iapply (signal m ρ K c (nxt c) (.inr ()) barS rfl rfl (OR c 0) (OS c 15) (OS_end c)) $$ [HO Ht]
  · isplitr; · iexact Hctx
    isplitl [HO]; · iexact HO
    isplitl [Ht]; · iexact Ht
    rw [payOf_bar]; iempintro
  iexact Hk

theorem step_barrier_wait (s : Sem sig) (hs : s = barS) {kt : PUnit → Prog (TpuEff nD τ sig (Elt F) Λ₀ .tc) α} {Q : α → sProp 𝕄} :
    iprop(ctx m ρ K ∗ owesE c (OR c 0) ∗ cred (tallyAt (barCell c) () 1) ∗ atPos ER (barCell c) 0 ∅ 0)
      ⊢ iprop((owesE c (OR c 0) ∗ semVal (barCell c) 0 -∗ WP c (kt ⟨⟩) Q) -∗ WP c (.op (.semWait s (1#32).toInt) kt) Q) := by
  subst hs
  iintro ⟨#Hctx, HO, Hc, Hat⟩ Hk
  iapply (wait_close m ρ K c (.inr ()) (OR c 0) (fun R => wpE_semWait_eq 𝒱₀ (c : Thread nD τ) none Set.univ R) (mayWait_low c (.inr ()) rfl 0)) $$ [HO Hc Hat]
  · isplitr; · iexact Hctx
    isplitl [Hc]; · iexact Hc
    isplitl [HO]; · iexact HO
    iexact Hat
  iintro ⟨HO, Hz, -⟩
  iapply Hk
  isplitl [HO]; · iexact HO
  iexact Hz

/-! ## Sending -/

/-- What the `j`-th copy needs, -/
def sendRes (j : Fin 15) : sProp 𝕄 :=
  iprop(atPos ER (crCell c j) 0 ∅ 0 ∗ cred (tallyAt (crCell c j) () 1) ∗ dutyTok ER (sdCell c j) 0 () ∗ dutyTok ER (rvCell (up c j) j) 0 ())
/-- and what is left of it. -/
def sentRes (j : Fin 15) : sProp 𝕄 := iprop(semVal (crCell c j) 0 ∗ cred (tallyAt (sdCell c j) () N))

/-- Between the copies: before the `k`-th, -/
def SD (k : ℕ) : sProp 𝕄 := iprop(bigSep (fr k) (sendRes (F := F) c) ∗ bigSep (til k) (sentRes (F := F) c) ∗ owesE c (OR c k))
/-- and with its credit taken: the slot it goes to. -/
def SDt (k : Fin 15) : sProp 𝕄 :=
  iprop((semVal (crCell c k) 0 ∗ slotAny (up c k) k ∗ dutyTok ER (sdCell c k) 0 () ∗ dutyTok ER (rvCell (up c k) k) 0 ())
    ∗ bigSep (fr (k.val + 1)) (sendRes (F := F) c) ∗ bigSep (til k.val) (sentRes (F := F) c) ∗ owesE c (OR c k.val))

theorem step_credit (k : Fin 15) (s : Sem sig) (hs : s = crS k) {kt : PUnit → Prog (TpuEff nD τ sig (Elt F) Λ₀ .tc) α} {Q : α → sProp 𝕄} :
    iprop(ctx m ρ K ∗ SD c k.val) ⊢ iprop((SDt c k -∗ WP c (kt ⟨⟩) Q) -∗ WP c (.op (.semWait s (1#32).toInt) kt) Q) := by
  subst hs
  unfold SD SDt
  rw [fr_take, show sendRes (F := F) c k = _ from rfl]
  unfold sendRes
  iintro ⟨#Hctx, ⟨⟨Hat, Hc, Hts, Htr⟩, Hrest⟩, Hdone, HO⟩ Hk
  iapply (wait_close m ρ K c (.inl (.inl k)) (OR c k.val) (fun R => wpE_semWait_eq 𝒱₀ (c : Thread nD τ) none Set.univ R)
    (mayWait_low c (.inl (.inl k)) rfl k.val)) $$ [HO Hc Hat]
  · isplitr; · iexact Hctx
    isplitl [Hc]; · iexact Hc
    isplitl [HO]; · iexact HO
    iexact Hat
  iintro ⟨HO, Hz, Hp⟩
  ihave Hp := (Entails.of_eq (payOf_cr m ρ c k)) $$ Hp
  iapply Hk
  isplitl [Hz Hp Hts Htr]
  · isplitl [Hz]; · iexact Hz
    isplitl [Hp]; · iexact Hp
    isplitl [Hts] <;> iassumption
  isplitl [Hrest]; · iexact Hrest
  isplitl [Hdone] <;> iassumption

theorem send_out (k : Fin 15) : ((pChunk (ck k)).view.loc (c : Thread nD τ) ↦[(pChunk (ck k)).view.set]{fullShare} pfin m ρ c)
    ⊢ (rd m ρ).payload (sdCell c k) 0 () := by
  rw [show (rd m ρ).payload (sdCell c k) 0 () = chunkAny c (ck k) from payload_at m ρ (c, .inl (.inr (.inl k))) ()]
  unfold chunkAny
  iintro H; iexists (pfin m ρ c); iexact H

theorem send_in (k : Fin 15) (fd : Buf (Elt F) ((rSlot k : Memref sig (Dev.tc (up c k) : Thread nD τ).2.kind .vmem S32x512 .bf16).view.loc (up c k : Thread nD τ))) :
    ((rSlot k : Memref sig (Dev.tc (up c k) : Thread nD τ).2.kind .vmem S32x512 .bf16).view.loc (up c k : Thread nD τ) ↦[(rSlot k : Memref sig (Dev.tc (up c k) : Thread nD τ).2.kind .vmem S32x512 .bf16).view.set]{fullShare}
        ((rSlot k : Memref sig (Dev.tc (up c k) : Thread nD τ).2.kind .vmem S32x512 .bf16).view.write (Elt F) fd ((pChunk (ck k)).view.read (Elt F) (pfin m ρ c)) Finset.univ))
      ⊢ (rd m ρ).payload (rvCell (up c k) k) 0 () := by
  rw [show (rd m ρ).payload (rvCell (up c k) k) 0 () = slotIn m ρ (up c k) k from payload_at m ρ (up c k, .inl (.inr (.inr k))) ()]
  unfold slotIn
  rw [dn_up]
  iintro H
  iexists ((rSlot k : Memref sig (Dev.tc (up c k) : Thread nD τ).2.kind .vmem S32x512 .bf16).view.write (Elt F) fd ((pChunk (ck k)).view.read (Elt F) (pfin m ρ c)) Finset.univ)
  isplitr
  · ipureintro
    exact View.read_write_univ _ _
  iexact H

theorem send_core (k : Fin 15) {α : Type}
    {hsc : (rSlot k : Memref sig (Dev.tc (up c k) : Thread nD τ).2.kind .vmem S32x512 .bf16).view.ref.isScScratch = false} {h1 : (pChunk (ck k)).view.WordExact} {h2 : (rSlot k).view.WordExact}
    {h3 : DmaTarget.Typed .vmem (.dma (rvS k)) (.remote (Dev.tc (up c k) : Thread nD τ) (rSlot k : Memref sig (Dev.tc (up c k) : Thread nD τ).2.kind .vmem S32x512 .bf16) (.dma (sdS k)) hsc)}
    {kt : PUnit → Prog (TpuEff nD τ sig (Elt F) Λ₀ .tc) α} {Q : α → sProp 𝕄} (W : Waits sig Unit)
    (fd : Buf (Elt F) ((rSlot k).view.loc (up c k : Thread nD τ))) :
    iprop(cellInv ER (rd m ρ) (K (c, .inl (.inr (.inl k)))) (sdCell c k) ∗ cellInv ER (rd m ρ) (K (up c k, .inl (.inr (.inr k)))) (rvCell (up c k) k)
        ∗ ((pChunk (ck k)).view.loc (c : Thread nD τ) ↦[(pChunk (ck k)).view.set]{fullShare} pfin m ρ c)
        ∗ ((rSlot k).view.loc (up c k : Thread nD τ) ↦[(rSlot k).view.set]{fullShare} fd)
        ∗ owes (c : Thread nD τ) (OR c k.val) W
        ∗ dutyTok ER (sdCell c k) 0 () ∗ reached ER (sdCell c k) 0
        ∗ dutyTok ER (rvCell (up c k) k) 0 () ∗ reached ER (rvCell (up c k) k) 0)
      ⊢ iprop(((cred (tallyAt (sdCell c k) () N) ∗ owes (c : Thread nD τ) (OR c (k.val + 1)) W) -∗ WP c (kt ⟨⟩) Q)
        -∗ WP c (.op (.enqueueDma (pChunk (ck k)) (.remote (Dev.tc (up c k) : Thread nD τ) (rSlot k) (.dma (sdS k)) hsc) (.dma (rvS k)) h1 h2 h3) kt) Q) := by
  have hs : (rd m ρ).amount (sdCell c k) 0 () = N := amount_at m ρ (c, .inl (.inr (.inl k))) ()
  have hr : (rd m ρ).amount (rvCell (up c k) k) 0 () = N := amount_at m ρ (up c k, .inl (.inr (.inr k))) ()
  have hmS : () ∈ (rd m ρ).duties (sdCell c k) 0 := mem_duties m ρ (c, .inl (.inr (.inl k)))
  have hmR : () ∈ (rd m ρ).duties (rvCell (up c k) k) 0 := mem_duties m ρ (up c k, .inl (.inr (.inr k)))
  have hro : τ.routes (c : Thread nD τ) (up c k : Thread nD τ) = true := by routes
  have hN : (rSlot k).view.amount (.dma (rvS k)) = N := N_slot k
  exact Rounds.wp_send_pointsTo (defs := defs₀ (F := F)) (Q := Q) (k := kt) 𝒱₀ ER (rd m ρ) (c : Thread nD τ) none (c' := (up c k : Thread nD τ)) (src := pChunk (ck k)) (dst := rSlot k) (hsc := hsc) (sS := .dma (sdS k)) (sem := .dma (rvS k))
    (hsrc := h1) (hdst := h2) (hsem := h3)
    (r₁ := 0) (r₂ := 0) (q := fullShare) (fs := pfin m ρ c) (d₁ := ()) (d₂ := ()) (fd := fd) (κ₁ := K (c, .inl (.inr (.inl k)))) (κ₂ := K (up c k, .inl (.inr (.inr k))))
    hmS hmR () () N hN hs hr (O₀ := OR c k.val) (OR c (k.val + 1)) (OR_step c k) (W := W) (send_out m ρ c k) (send_in m ρ c k fd) (Es := Set.univ) hro

theorem step_send (k : Fin 15) (d : Dev nD) (hd : d = up c k)
    (src : Memref sig .tc .vmem S32x512 .bf16) (hsrc : src = pChunk (ck k))
    (dst : Memref sig (Dev.tc d : Thread nD τ).2.kind .vmem S32x512 .bf16) (hdst : dst = rSlot k)
    (sS sR : DmaSem sig) (hS : sS = sdS k) (hR : sR = rvS k)
    {hsc : dst.view.ref.isScScratch = false} {h1 : src.view.WordExact} {h2 : dst.view.WordExact}
    {h3 : DmaTarget.Typed .vmem (.dma sR) (.remote (Dev.tc d : Thread nD τ) dst (.dma sS) hsc)}
    {kt : PUnit → Prog (TpuEff nD τ sig (Elt F) Λ₀ .tc) α} {Q : α → sProp 𝕄} :
    iprop(ctx m ρ K ∗ SDt c k ∗ chunkIn m ρ c (ck k))
      ⊢ iprop((SD c (k.val + 1) -∗ WP c (kt ⟨⟩) Q)
        -∗ WP c (.op (.enqueueDma src (.remote (Dev.tc d : Thread nD τ) dst (.dma sS) hsc) (.dma sR) h1 h2 h3) kt) Q) := by
  subst hd hsrc hdst hS hR
  unfold SD SDt slotAny ctx owesE
  rw [til_put, show sentRes (F := F) c k = _ from rfl]
  unfold sentRes
  iintro ⟨⟨#Hrec, #Hlev⟩, ⟨⟨Hz, ⟨%fd, Hs⟩, Hts, Htr⟩, Hrest, Hdone, ⟨%W, HO⟩⟩, Hch⟩ Hk
  unfold chunkIn
  iapply (send_core m ρ K c k W fd) $$ [Hs HO Hts Htr Hch]
  · isplitr; · iapply (inv_at m ρ K (c, .inl (.inr (.inl k)))); iexact Hrec
    isplitr; · iapply (inv_at m ρ K (up c k, .inl (.inr (.inr k)))); iexact Hrec
    isplitl [Hch]; · iexact Hch
    isplitl [Hs]; · iexact Hs
    isplitl [HO]; · iexact HO
    isplitl [Hts]; · iexact Hts
    isplitr; · iapply (reached_at m ρ K (c, .inl (.inr (.inl k)))); iexact Hrec
    isplitl [Htr]; · iexact Htr
    iapply (reached_at m ρ K (up c k, .inl (.inr (.inr k)))); iexact Hrec
  iintro ⟨Hc, HO⟩
  iapply Hk
  isplitl [Hrest]; · iexact Hrest
  isplitl [Hz Hc Hdone]
  · isplitl [Hz Hc]
    · isplitl [Hz]; · iexact Hz
      iexact Hc
    iexact Hdone
  iexists W; iexact HO

/-! ## Receiving -/

/-- Before the `k`-th landing is awaited. -/
def SE (k : ℕ) : sProp 𝕄 :=
  iprop((bigSep (fr k) fun j => iprop(atPos ER (rvCell c j) 0 ∅ 0 ∗ cred (tallyAt (rvCell c j) () N)))
    ∗ (bigSep (til k) fun j => iprop(semVal (rvCell c j) 0 ∗ slotIn m ρ c j)) ∗ owesE c 0)

omit [FloatOps F] in
theorem mayWait_zero (s : SemLoc sig) : (levAts L lv : sProp 𝕄) ⊢ MayWait (c : Thread nD τ) s () 0 := by
  rw [MayWait_zero]; iintro -; iempintro

theorem step_recv (k : Fin 15) (s : DmaSem sig) (hs : s = rvS k) {sp' : Space} {s' : Shape} {e' : EltTy}
    (src : Memref sig .tc sp' s' e') (dst : Memref sig .tc .vmem S32x512 .bf16) (hdst : dst = rSlot k)
    {h1 : src.view.WordExact} {h2 : dst.view.WordExact} {kt : PUnit → Prog (TpuEff nD τ sig (Elt F) Λ₀ .tc) α} {Q : α → sProp 𝕄} :
    iprop(ctx m ρ K ∗ SE m ρ c k.val) ⊢ iprop((SE m ρ c (k.val + 1) -∗ WP c (kt ⟨⟩) Q) -∗ WP c (.op (.waitDma2 s src dst h1 h2) kt) Q) := by
  subst hs hdst
  unfold SE
  rw [fr_take, til_put]
  have hw : ∀ R : PUnit → sProp 𝕄, wpE (defs₀ (F := F)) 𝒱₀ (c : Thread nD τ) none Set.univ (.waitDma2 (rvS k) src (rSlot k) h1 h2) R
      = waitSpec (c : Thread nD τ) Set.univ (csem (.inl (.inr (.inr k)))) (amtOf (.inl (.inr (.inr k)))) R := fun R => by rw [wpE_waitDma2_eq, N_slot]; rfl
  iintro ⟨#Hctx, ⟨⟨Hat, Hc⟩, Hrest⟩, Hdone, HO⟩ Hk
  iapply (wait_close m ρ K c (.inl (.inr (.inr k))) 0 hw (mayWait_zero c _)) $$ [HO Hc Hat]
  · isplitr; · iexact Hctx
    isplitl [Hc]; · iexact Hc
    isplitl [HO]; · iexact HO
    iexact Hat
  iintro ⟨HO, Hz, Hp⟩
  ihave Hp := (Entails.of_eq (payOf_rv m ρ c k)) $$ Hp
  iapply Hk
  isplitl [Hrest]; · iexact Hrest
  isplitl [Hz Hp Hdone]
  · isplitl [Hz Hp]
    · isplitl [Hz]; · iexact Hz
      iexact Hp
    iexact Hdone
  iexact HO

/-- Loading a slot reads its one operand. -/
theorem slot_read (k : Fin 15) (f : Buf (Elt F) ((rSlot k).view.loc (c : Thread nD τ)))
    (hf : (rSlot k).view.read (Elt F) f = chunkVal m ρ (dn c k) (ck k)) :
    (rM : Memref sig .tc .vmem S15x32x512 .bf16).view.readAt (Elt F) (rectR k).toLoadRect f = slotVal m ρ c k := by
  rw [View.readAt_rect]
  funext x
  unfold slotVal
  rw [← hf]
  show _ = (rSlot3 k).view.read (Elt F) f (Shape.reshapeEquiv squeezes_S1x32x512_S32x512.numel_eq ((Shape.reshapeEquiv squeezes_S1x32x512_S32x512.numel_eq).symm x))
  rw [Equiv.apply_symm_apply]

theorem slot_sub (k : Fin 15) : (rM : Memref sig .tc .vmem S15x32x512 .bf16).view.setOn (rectR k).toLoadRect.set ⊆ (rSlot k).view.set := by
  have h : (rSlot k).view.set = (rM : Memref sig .tc .vmem S15x32x512 .bf16).view.setOn (rectR k).set :=
    (View.set_reshape _ _).trans (View.set_slice _ _)
  rw [h]

theorem step_load (k : Fin 15) (n : ℕ) (hn : k.val < n)
    {hl : (rM : Memref sig .tc .vmem S15x32x512 .bf16).view.LoadsAt (rectR k).toLoadRect}
    {kt : ((rectR k).toLoadRect.shape.Idx → Elt F .bf16) → Prog (TpuEff nD τ sig (Elt F) Λ₀ .tc) α} {Q : α → sProp 𝕄} :
    SE m ρ c n ⊢ iprop((SE m ρ c n -∗ WP c (kt (slotVal m ρ c k)) Q) -∗ WP c (.op (.load rM (rectR k).toLoadRect hl) kt) Q) := by
  unfold SE
  have hk : bigSep (til n) (fun j => iprop(semVal (rvCell c j) 0 ∗ slotIn m ρ c j : sProp 𝕄))
      = iprop((semVal (rvCell c k) 0 ∗ slotIn m ρ c k) ∗ bigSep ((til n).erase k) (fun j => iprop(semVal (rvCell c j) 0 ∗ slotIn m ρ c j : sProp 𝕄))) :=
    bigSep_erase (mem_til k n hn)
  rw [hk]
  unfold slotIn
  iintro ⟨Hrest, ⟨⟨Hz, ⟨%f, %hf, Hs⟩⟩, Hdone⟩, HO⟩ Hk
  iapply (wp_load 𝒱₀ (c : Thread nD τ) none Set.univ (m := rM) (S := (rSlot k).view.set) (slot_sub k)) $$ Hs
  iintro Hs
  rw [slot_read m ρ c k f hf]
  iapply Hk
  isplitl [Hrest]; · iexact Hrest
  isplitl [Hz Hs Hdone]
  · isplitl [Hz Hs]
    · isplitl [Hz]; · iexact Hz
      iexists f; isplitr; · ipureintro; exact hf
      iexact Hs
    iexact Hdone
  iexact HO

/-! ## The read-outs -/

/-- Before the `k`-th read-out is awaited. -/
def SF (k : ℕ) : sProp 𝕄 :=
  iprop((bigSep (fr k) fun j => iprop(atPos ER (sdCell c j) 0 ∅ 0 ∗ cred (tallyAt (sdCell c j) () N)))
    ∗ (bigSep (til k) fun j => iprop(semVal (sdCell c j) 0 ∗ chunkAny (F := F) c (ck j))) ∗ owesE c 0)

theorem step_out (k : Fin 15) (s : DmaSem sig) (hs : s = sdS k) {sp' : Space} {s' : Shape} {e' : EltTy}
    (src : Memref sig .tc sp' s' e') (dst : Memref sig .tc .vmem S32x512 .bf16) (hdst : dst = pChunk (ck k))
    {h1 : src.view.WordExact} {h2 : dst.view.WordExact} {kt : PUnit → Prog (TpuEff nD τ sig (Elt F) Λ₀ .tc) α} {Q : α → sProp 𝕄} :
    iprop(ctx m ρ K ∗ SF c k.val) ⊢ iprop((SF c (k.val + 1) -∗ WP c (kt ⟨⟩) Q) -∗ WP c (.op (.waitDma2 s src dst h1 h2) kt) Q) := by
  subst hs hdst
  unfold SF
  rw [fr_take, til_put]
  have hw : ∀ R : PUnit → sProp 𝕄, wpE (defs₀ (F := F)) 𝒱₀ (c : Thread nD τ) none Set.univ (.waitDma2 (sdS k) src (pChunk (ck k)) h1 h2) R
      = waitSpec (c : Thread nD τ) Set.univ (csem (.inl (.inr (.inl k)))) (amtOf (.inl (.inr (.inl k)))) R := fun R => by rw [wpE_waitDma2_eq, N_chunk]; rfl
  iintro ⟨#Hctx, ⟨⟨Hat, Hc⟩, Hrest⟩, Hdone, HO⟩ Hk
  iapply (wait_close m ρ K c (.inl (.inr (.inl k))) 0 hw (mayWait_zero c _)) $$ [HO Hc Hat]
  · isplitr; · iexact Hctx
    isplitl [Hc]; · iexact Hc
    isplitl [HO]; · iexact HO
    iexact Hat
  iintro ⟨HO, Hz, Hp⟩
  ihave Hp := (Entails.of_eq (payOf_sd m ρ c k)) $$ Hp
  iapply Hk
  isplitl [Hrest]; · iexact Hrest
  isplitl [Hz Hp Hdone]
  · isplitl [Hz Hp]
    · isplitl [Hz]; · iexact Hz
      iexact Hp
    iexact Hdone
  iexact HO

end Cert.MoE

end
-- ==== Proof.Parts.lean ====
/-
  The phases of the kernel in the parts the program is printed in: the credits given, the chunks sent, the landings added
  up, the read-outs awaited — each part a sequence of the steps.
-/
module

public import proofs.«01_k».proof.Proof.Steps

@[expose] public section

noncomputable section

namespace Cert.MoE

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A function of the kernel on the buffers it is called with. -/
abbrev onBufs {β : Sort _} (f : (a0 : Memref sig .tc .vmem S512x256 .f32) → a0.IsWhole → (a1 : Memref sig .tc .vmem S256x32 .f32) → a1.IsWhole
    → (a2 : Memref sig .tc .vmem S512x2 .i32) → a2.IsWhole → (a3 : Memref sig .tc .vmem S2x256x512 .f32) → a3.IsWhole
    → (a4 : Memref sig .tc .vmem S32x512 .f32) → a4.IsWhole → (a5 : Memref sig .tc .vmem S512x512 .bf16) → a5.IsWhole
    → (a6 : Memref sig .tc .vmem S15x32x512 .bf16) → a6.IsWhole → (a7 : Memref sig .tc .vmem S1024x256 .f32) → a7.IsWhole
    → (a8 : Memref sig .tc .vmem S1024x2 .i32) → a8.IsWhole → DmaSems sig S15 → DmaSems sig S15 → Sems sig S15 → β) : β :=
  f xM (Memref.isWhole_whole _) wM (Memref.isWhole_whole _) iM (Memref.isWhole_whole _) eM (Memref.isWhole_whole _) oM (Memref.isWhole_whole _)
    pM (Memref.isWhole_whole _) rM (Memref.isWhole_whole _) x2M (Memref.isWhole_whole _) i2M (Memref.isWhole_whole _) cc0_scratch4 cc0_scratch5 cc0_scratch6

variable (K : Dev nD × KK → ℕ) (c : Dev nD) {α : Type}

/-! ## The steps, what is known kept -/

/-- A program at its end. -/
theorem ret_ {a : α} {Q : α → sProp 𝕄} : Q a ⊢ WP c (.ret a) Q := by
  show Q a ⊢ iprop(|={Set.univ}=> Q a)
  iintro H
  imodintro
  iexact H

omit [FloatOps F] in
theorem upv (k : Fin 15) (n : ℕ) (hn : 1 + k.val = n) {d : Dev nD} (hd : d.val = (c.val + n) % 16) : d = up c k := by
  subst hn; exact Fin.ext hd
omit [FloatOps F] in
theorem dnv (k : Fin 15) (n : ℕ) (hn : 15 - k.val = n) {d : Dev nD} (hd : d.val = (c.val + n) % 16) : d = dn c k := by
  subst hn; exact Fin.ext hd

/-- Giving credits. -/
def stS (i : ℕ) : sProp 𝕄 := iprop(ctx m ρ K ∗ SS c i)

theorem sig_ (k : Fin 15) (i j : ℕ) (hi : k.val = i) (hj : k.val + 1 = j) {d : Dev nD} (hd : d = dn c k) {s : Sem sig} (hs : s = crS k)
    {kt : PUnit → Prog (TpuEff nD τ sig (Elt F) Λ₀ .tc) α} {Q : α → sProp 𝕄} :
    stS m ρ K c i ⊢ iprop((stS m ρ K c j -∗ WP c (kt ⟨⟩) Q) -∗ WP c (.op (.semSignal (d : Thread nD τ) s (1#32).toInt) kt) Q) := by
  subst hi hj
  unfold stS
  iintro ⟨#Hctx, HS⟩ Hk
  iapply (step_signal m ρ K c k d hd s hs) $$ [HS]
  · isplitr; · iexact Hctx
    iexact HS
  iintro HS
  iapply Hk
  isplitr; · iexact Hctx
  iexact HS

/-- The copies from the `k`-th on, before the `h`-th. -/
def mid (k h : ℕ) : Finset (Fin 15) := Finset.univ.filter fun j => k ≤ j.val ∧ j.val < h

theorem mid_step (k : Fin 15) (h : ℕ) (hk : k.val < h) : mid k.val h = insert k (mid (k.val + 1) h) := by
  ext j; simp only [mid, Finset.mem_filter, Finset.mem_univ, true_and, Finset.mem_insert, Fin.ext_iff]; omega
theorem mid_self (k : ℕ) : mid k k = ∅ := Finset.filter_false_of_mem fun j _ => by omega

/-- Chunks computed and not yet sent. -/
def chs (k h : ℕ) : sProp 𝕄 := bigSep (mid k h) fun j => chunkIn m ρ c (ck j)
theorem chs_take (k : Fin 15) (h : ℕ) (hk : k.val < h) : chs m ρ c k.val h = iprop(chunkIn m ρ c (ck k) ∗ chs m ρ c (k.val + 1) h) := by
  unfold chs
  rw [mid_step k h hk, bigSep_insert (by simp [mid])]; rfl
theorem chs_self (k : ℕ) : chs m ρ c k k = iprop(emp) := by unfold chs; rw [mid_self, bigSep_empty]; rfl

/-- Between the copies, the chunks before the `h`-th computed; -/
def stD (i h : ℕ) : sProp 𝕄 := iprop(ctx m ρ K ∗ SD c i ∗ chs m ρ c i h)
/-- with the credit of the next taken. -/
def stT (k : Fin 15) (h : ℕ) : sProp 𝕄 := iprop(ctx m ρ K ∗ SDt c k ∗ chs m ρ c k.val h)

theorem crd_ (k : Fin 15) (i h : ℕ) (hi : k.val = i) {s : Sem sig} (hs : s = crS k)
    {kt : PUnit → Prog (TpuEff nD τ sig (Elt F) Λ₀ .tc) α} {Q : α → sProp 𝕄} :
    stD m ρ K c i h ⊢ iprop((stT m ρ K c k h -∗ WP c (kt ⟨⟩) Q) -∗ WP c (.op (.semWait s (1#32).toInt) kt) Q) := by
  subst hi
  unfold stD stT
  iintro ⟨#Hctx, HS, Hc⟩ Hk
  iapply (step_credit m ρ K c k s hs) $$ [HS]
  · isplitr; · iexact Hctx
    iexact HS
  iintro HS
  iapply Hk
  isplitr; · iexact Hctx
  isplitl [HS] <;> iassumption

theorem snd_ (k : Fin 15) (j h : ℕ) (hj : k.val + 1 = j) (hh : k.val < h) {d : Dev nD} (hd : d = up c k)
    {src : Memref sig .tc .vmem S32x512 .bf16} (hsrc : src = pChunk (ck k))
    {dst : Memref sig (Dev.tc d : Thread nD τ).2.kind .vmem S32x512 .bf16} (hdst : dst = rSlot k)
    {sS sR : DmaSem sig} (hS : sS = sdS k) (hR : sR = rvS k)
    {hsc : dst.view.ref.isScScratch = false} {h1 : src.view.WordExact} {h2 : dst.view.WordExact}
    {h3 : DmaTarget.Typed .vmem (.dma sR) (.remote (Dev.tc d : Thread nD τ) dst (.dma sS) hsc)}
    {kt : PUnit → Prog (TpuEff nD τ sig (Elt F) Λ₀ .tc) α} {Q : α → sProp 𝕄} :
    stT m ρ K c k h ⊢ iprop((stD m ρ K c j h -∗ WP c (kt ⟨⟩) Q)
        -∗ WP c (.op (.enqueueDma src (.remote (Dev.tc d : Thread nD τ) dst (.dma sS) hsc) (.dma sR) h1 h2 h3) kt) Q) := by
  subst hj
  unfold stD stT
  rw [chs_take m ρ c k h hh]
  iintro ⟨#Hctx, HS, Hc, Hcs⟩ Hk
  iapply (step_send m ρ K c k d hd src hsrc dst hdst sS sR hS hR) $$ [HS Hc]
  · isplitr; · iexact Hctx
    isplitl [HS] <;> iassumption
  iintro HS
  iapply Hk
  isplitr; · iexact Hctx
  isplitl [HS] <;> iassumption

/-- Awaiting the landings. -/
def stE (i : ℕ) : sProp 𝕄 := iprop(ctx m ρ K ∗ SE m ρ c i)

theorem rcv_ (k : Fin 15) (i j : ℕ) (hi : k.val = i) (hj : k.val + 1 = j) {s : DmaSem sig} (hs : s = rvS k) {sp' : Space} {s' : Shape} {e' : EltTy}
    {src : Memref sig .tc sp' s' e'} {dst : Memref sig .tc .vmem S32x512 .bf16} (hdst : dst = rSlot k)
    {h1 : src.view.WordExact} {h2 : dst.view.WordExact} {kt : PUnit → Prog (TpuEff nD τ sig (Elt F) Λ₀ .tc) α} {Q : α → sProp 𝕄} :
    stE m ρ K c i ⊢ iprop((stE m ρ K c j -∗ WP c (kt ⟨⟩) Q) -∗ WP c (.op (.waitDma2 s src dst h1 h2) kt) Q) := by
  subst hi hj
  unfold stE
  iintro ⟨#Hctx, HS⟩ Hk
  iapply (step_recv m ρ K c k s hs src dst hdst) $$ [HS]
  · isplitr; · iexact Hctx
    iexact HS
  iintro HS
  iapply Hk
  isplitr; · iexact Hctx
  iexact HS

theorem ld_ (k : Fin 15) (i : ℕ) (hi : k.val < i)
    {hl : (rM : Memref sig .tc .vmem S15x32x512 .bf16).view.LoadsAt (rectR k).toLoadRect}
    {kt : ((rectR k).toLoadRect.shape.Idx → Elt F .bf16) → Prog (TpuEff nD τ sig (Elt F) Λ₀ .tc) α} {Q : α → sProp 𝕄} :
    stE m ρ K c i ⊢ iprop((stE m ρ K c i -∗ WP c (kt (slotVal m ρ c k)) Q) -∗ WP c (.op (.load rM (rectR k).toLoadRect hl) kt) Q) := by
  unfold stE
  iintro ⟨#Hctx, HS⟩ Hk
  iapply (step_load m ρ c k i hi) $$ HS
  iintro HS
  iapply Hk
  isplitr; · iexact Hctx
  iexact HS

/-- Awaiting the read-outs. -/
def stF (i : ℕ) : sProp 𝕄 := iprop(ctx m ρ K ∗ SF c i)

theorem out_ (k : Fin 15) (i j : ℕ) (hi : k.val = i) (hj : k.val + 1 = j) {s : DmaSem sig} (hs : s = sdS k) {sp' : Space} {s' : Shape} {e' : EltTy}
    {src : Memref sig .tc sp' s' e'} {dst : Memref sig .tc .vmem S32x512 .bf16} (hdst : dst = pChunk (ck k))
    {h1 : src.view.WordExact} {h2 : dst.view.WordExact} {kt : PUnit → Prog (TpuEff nD τ sig (Elt F) Λ₀ .tc) α} {Q : α → sProp 𝕄} :
    stF m ρ K c i ⊢ iprop((stF m ρ K c j -∗ WP c (kt ⟨⟩) Q) -∗ WP c (.op (.waitDma2 s src dst h1 h2) kt) Q) := by
  subst hi hj
  unfold stF
  iintro ⟨#Hctx, HS⟩ Hk
  iapply (step_out m ρ K c k s hs src dst hdst) $$ [HS]
  · isplitr; · iexact Hctx
    iexact HS
  iintro HS
  iapply Hk
  isplitr; · iexact Hctx
  iexact HS

/-! ## The parts -/

theorem part1 {Q : _ → sProp 𝕄} :
    stS m ρ K c 0 ⊢ iprop((stS m ρ K c 3 -∗ ∀ v w, Q ⟨c, Scalar.remsi (Scalar.divsi (Dev.word c) 1#32) 16#32, v, w⟩) -∗ WP c (onBufs (k0_part1 (F := F))) Q) := by
  rw [k0_part1_eq_skeleton]
  unfold onBufs k0_part1_skel
  simp only [semSignalWord, semWaitWord, Prog.lift, Prog.bind_op, Prog.bind_ret, Prog.pure_eq_ret, wp_deviceId]
  iintro HS Hk
  iapply (sig_ m ρ K c 0 0 1 rfl rfl (dnv c 0 15 rfl (d := ⟨k0_dev1 c, k0_dev1_lt c⟩) (k0_dev1_eq c)) rfl) $$ HS; iintro HS
  iapply (sig_ m ρ K c 1 1 2 rfl rfl (dnv c 1 14 rfl (d := ⟨k0_dev2 c, k0_dev2_lt c⟩) (k0_dev2_eq c)) rfl) $$ HS; iintro HS
  iapply (sig_ m ρ K c 2 2 3 rfl rfl (dnv c 2 13 rfl (d := ⟨k0_dev3 c, k0_dev3_lt c⟩) (k0_dev3_eq c)) rfl) $$ HS; iintro HS
  iapply (ret_ c)
  ispecialize Hk $$ HS
  iapply Hk

theorem part2 (v2 v w : BitVec 32) {Q : _ → sProp 𝕄} :
    stS m ρ K c 3 ⊢ iprop((stS m ρ K c 6 -∗ ∀ v, Q v) -∗ WP c (onBufs (k0_part2 (F := F)) c v2 v w) Q) := by
  rw [k0_part2_eq_skeleton]
  unfold onBufs k0_part2_skel
  simp only [semSignalWord, semWaitWord, Prog.lift, Prog.bind_op, Prog.bind_ret, Prog.pure_eq_ret, wp_deviceId]
  iintro HS Hk
  iapply (sig_ m ρ K c 3 3 4 rfl rfl (dnv c 3 12 rfl (d := ⟨k0_dev4 c, k0_dev4_lt c⟩) (k0_dev4_eq c)) rfl) $$ HS; iintro HS
  iapply (sig_ m ρ K c 4 4 5 rfl rfl (dnv c 4 11 rfl (d := ⟨k0_dev5 c, k0_dev5_lt c⟩) (k0_dev5_eq c)) rfl) $$ HS; iintro HS
  iapply (sig_ m ρ K c 5 5 6 rfl rfl (dnv c 5 10 rfl (d := ⟨k0_dev6 c, k0_dev6_lt c⟩) (k0_dev6_eq c)) rfl) $$ HS; iintro HS
  iapply (ret_ c)
  ispecialize Hk $$ HS
  iapply Hk

theorem part3 (v2 v : BitVec 32) {Q : _ → sProp 𝕄} :
    stS m ρ K c 6 ⊢ iprop((stS m ρ K c 10 -∗ ∀ v, Q v) -∗ WP c (onBufs (k0_part3 (F := F)) c v2 v) Q) := by
  rw [k0_part3_eq_skeleton]
  unfold onBufs k0_part3_skel
  simp only [semSignalWord, semWaitWord, Prog.lift, Prog.bind_op, Prog.bind_ret, Prog.pure_eq_ret, wp_deviceId]
  iintro HS Hk
  iapply (sig_ m ρ K c 6 6 7 rfl rfl (dnv c 6 9 rfl (d := ⟨k0_dev7 c, k0_dev7_lt c⟩) (k0_dev7_eq c)) rfl) $$ HS; iintro HS
  iapply (sig_ m ρ K c 7 7 8 rfl rfl (dnv c 7 8 rfl (d := ⟨k0_dev8 c, k0_dev8_lt c⟩) (k0_dev8_eq c)) rfl) $$ HS; iintro HS
  iapply (sig_ m ρ K c 8 8 9 rfl rfl (dnv c 8 7 rfl (d := ⟨k0_dev9 c, k0_dev9_lt c⟩) (k0_dev9_eq c)) rfl) $$ HS; iintro HS
  iapply (sig_ m ρ K c 9 9 10 rfl rfl (dnv c 9 6 rfl (d := ⟨k0_dev10 c, k0_dev10_lt c⟩) (k0_dev10_eq c)) rfl) $$ HS; iintro HS
  iapply (ret_ c)
  ispecialize Hk $$ HS
  iapply Hk

theorem part4 (v2 v : BitVec 32) {Q : _ → sProp 𝕄} :
    stS m ρ K c 10 ⊢ iprop((stS m ρ K c 13 -∗ ∀ v w, Q ⟨v, w⟩) -∗ WP c (onBufs (k0_part4 (F := F)) c v2 v) Q) := by
  rw [k0_part4_eq_skeleton]
  unfold onBufs k0_part4_skel
  simp only [semSignalWord, semWaitWord, Prog.lift, Prog.bind_op, Prog.bind_ret, Prog.pure_eq_ret, wp_deviceId]
  iintro HS Hk
  iapply (sig_ m ρ K c 10 10 11 rfl rfl (dnv c 10 5 rfl (d := ⟨k0_dev11 c, k0_dev11_lt c⟩) (k0_dev11_eq c)) rfl) $$ HS; iintro HS
  iapply (sig_ m ρ K c 11 11 12 rfl rfl (dnv c 11 4 rfl (d := ⟨k0_dev12 c, k0_dev12_lt c⟩) (k0_dev12_eq c)) rfl) $$ HS; iintro HS
  iapply (sig_ m ρ K c 12 12 13 rfl rfl (dnv c 12 3 rfl (d := ⟨k0_dev13 c, k0_dev13_lt c⟩) (k0_dev13_eq c)) rfl) $$ HS; iintro HS
  iapply (ret_ c)
  ispecialize Hk $$ HS
  iapply Hk

theorem part8 (v2 : BitVec 32) {Q : _ → sProp 𝕄} :
    stT m ρ K c 0 8 ⊢ iprop((stD m ρ K c 2 8 -∗ Q ⟨⟩) -∗ WP c (onBufs (k0_part8 (F := F)) c v2) Q) := by
  rw [k0_part8_eq_skeleton]
  unfold onBufs k0_part8_skel
  simp only [semSignalWord, semWaitWord, Prog.lift, Prog.bind_op, Prog.bind_ret, Prog.pure_eq_ret, wp_deviceId]
  iintro HS Hk
  iapply (snd_ m ρ K c 0 1 8 rfl (by decide) (upv c 0 1 rfl (d := ⟨k0_dev17 c, k0_dev17_lt c⟩) (k0_dev17_eq c)) rfl rfl rfl rfl) $$ HS; iintro HS
  iapply (crd_ m ρ K c 1 1 8 rfl rfl) $$ HS; iintro HS
  iapply (snd_ m ρ K c 1 2 8 rfl (by decide) (upv c 1 2 rfl (d := ⟨k0_dev18 c, k0_dev18_lt c⟩) (k0_dev18_eq c)) rfl rfl rfl rfl) $$ HS; iintro HS
  iapply (ret_ c)
  ispecialize Hk $$ HS
  iapply Hk

theorem part9 (v2 : BitVec 32) {Q : _ → sProp 𝕄} :
    stD m ρ K c 2 8 ⊢ iprop((stD m ρ K c 4 8 -∗ Q ⟨⟩) -∗ WP c (onBufs (k0_part9 (F := F)) c v2) Q) := by
  rw [k0_part9_eq_skeleton]
  unfold onBufs k0_part9_skel
  simp only [semSignalWord, semWaitWord, Prog.lift, Prog.bind_op, Prog.bind_ret, Prog.pure_eq_ret, wp_deviceId]
  iintro HS Hk
  iapply (crd_ m ρ K c 2 2 8 rfl rfl) $$ HS; iintro HS
  iapply (snd_ m ρ K c 2 3 8 rfl (by decide) (upv c 2 3 rfl (d := ⟨k0_dev19 c, k0_dev19_lt c⟩) (k0_dev19_eq c)) rfl rfl rfl rfl) $$ HS; iintro HS
  iapply (crd_ m ρ K c 3 3 8 rfl rfl) $$ HS; iintro HS
  iapply (snd_ m ρ K c 3 4 8 rfl (by decide) (upv c 3 4 rfl (d := ⟨k0_dev20 c, k0_dev20_lt c⟩) (k0_dev20_eq c)) rfl rfl rfl rfl) $$ HS; iintro HS
  iapply (ret_ c)
  ispecialize Hk $$ HS
  iapply Hk

theorem part10 (v2 : BitVec 32) {Q : _ → sProp 𝕄} :
    stD m ρ K c 4 8 ⊢ iprop((stD m ρ K c 6 8 -∗ Q ⟨⟩) -∗ WP c (onBufs (k0_part10 (F := F)) c v2) Q) := by
  rw [k0_part10_eq_skeleton]
  unfold onBufs k0_part10_skel
  simp only [semSignalWord, semWaitWord, Prog.lift, Prog.bind_op, Prog.bind_ret, Prog.pure_eq_ret, wp_deviceId]
  iintro HS Hk
  iapply (crd_ m ρ K c 4 4 8 rfl rfl) $$ HS; iintro HS
  iapply (snd_ m ρ K c 4 5 8 rfl (by decide) (upv c 4 5 rfl (d := ⟨k0_dev21 c, k0_dev21_lt c⟩) (k0_dev21_eq c)) rfl rfl rfl rfl) $$ HS; iintro HS
  iapply (crd_ m ρ K c 5 5 8 rfl rfl) $$ HS; iintro HS
  iapply (snd_ m ρ K c 5 6 8 rfl (by decide) (upv c 5 6 rfl (d := ⟨k0_dev22 c, k0_dev22_lt c⟩) (k0_dev22_eq c)) rfl rfl rfl rfl) $$ HS; iintro HS
  iapply (ret_ c)
  ispecialize Hk $$ HS
  iapply Hk

theorem part11 (v2 : BitVec 32) {Q : _ → sProp 𝕄} :
    stD m ρ K c 6 8 ⊢ iprop((stT m ρ K c 7 8 -∗ Q ⟨⟩) -∗ WP c (onBufs (k0_part11 (F := F)) c v2) Q) := by
  rw [k0_part11_eq_skeleton]
  unfold onBufs k0_part11_skel
  simp only [semSignalWord, semWaitWord, Prog.lift, Prog.bind_op, Prog.bind_ret, Prog.pure_eq_ret, wp_deviceId]
  iintro HS Hk
  iapply (crd_ m ρ K c 6 6 8 rfl rfl) $$ HS; iintro HS
  iapply (snd_ m ρ K c 6 7 8 rfl (by decide) (upv c 6 7 rfl (d := ⟨k0_dev23 c, k0_dev23_lt c⟩) (k0_dev23_eq c)) rfl rfl rfl rfl) $$ HS; iintro HS
  iapply (crd_ m ρ K c 7 7 8 rfl rfl) $$ HS; iintro HS
  iapply (ret_ c)
  ispecialize Hk $$ HS
  iapply Hk

theorem part13 (v2 v : BitVec 32) {Q : _ → sProp 𝕄} :
    stT m ρ K c 9 15 ⊢ iprop((stT m ρ K c 11 15 -∗ Q ⟨⟩) -∗ WP c (onBufs (k0_part13 (F := F)) c v2 v) Q) := by
  rw [k0_part13_eq_skeleton]
  unfold onBufs k0_part13_skel
  simp only [semSignalWord, semWaitWord, Prog.lift, Prog.bind_op, Prog.bind_ret, Prog.pure_eq_ret, wp_deviceId]
  iintro HS Hk
  iapply (snd_ m ρ K c 9 10 15 rfl (by decide) (upv c 9 10 rfl (d := ⟨k0_dev26 c, k0_dev26_lt c⟩) (k0_dev26_eq c)) rfl rfl rfl rfl) $$ HS; iintro HS
  iapply (crd_ m ρ K c 10 10 15 rfl rfl) $$ HS; iintro HS
  iapply (snd_ m ρ K c 10 11 15 rfl (by decide) (upv c 10 11 rfl (d := ⟨k0_dev27 c, k0_dev27_lt c⟩) (k0_dev27_eq c)) rfl rfl rfl rfl) $$ HS; iintro HS
  iapply (crd_ m ρ K c 11 11 15 rfl rfl) $$ HS; iintro HS
  iapply (ret_ c)
  ispecialize Hk $$ HS
  iapply Hk

theorem part14 (v2 : BitVec 32) {Q : _ → sProp 𝕄} :
    stT m ρ K c 11 15 ⊢ iprop((stD m ρ K c 13 15 -∗ Q ⟨⟩) -∗ WP c (onBufs (k0_part14 (F := F)) c v2) Q) := by
  rw [k0_part14_eq_skeleton]
  unfold onBufs k0_part14_skel
  simp only [semSignalWord, semWaitWord, Prog.lift, Prog.bind_op, Prog.bind_ret, Prog.pure_eq_ret, wp_deviceId]
  iintro HS Hk
  iapply (snd_ m ρ K c 11 12 15 rfl (by decide) (upv c 11 12 rfl (d := ⟨k0_dev28 c, k0_dev28_lt c⟩) (k0_dev28_eq c)) rfl rfl rfl rfl) $$ HS; iintro HS
  iapply (crd_ m ρ K c 12 12 15 rfl rfl) $$ HS; iintro HS
  iapply (snd_ m ρ K c 12 13 15 rfl (by decide) (upv c 12 13 rfl (d := ⟨k0_dev29 c, k0_dev29_lt c⟩) (k0_dev29_eq c)) rfl rfl rfl rfl) $$ HS; iintro HS
  iapply (ret_ c)
  ispecialize Hk $$ HS
  iapply Hk

theorem part15 (v2 : BitVec 32) {Q : _ → sProp 𝕄} :
    stD m ρ K c 13 15 ⊢ iprop((stD m ρ K c 15 15 -∗ Q ⟨⟩) -∗ WP c (onBufs (k0_part15 (F := F)) c v2) Q) := by
  rw [k0_part15_eq_skeleton]
  unfold onBufs k0_part15_skel
  simp only [semSignalWord, semWaitWord, Prog.lift, Prog.bind_op, Prog.bind_ret, Prog.pure_eq_ret, wp_deviceId]
  iintro HS Hk
  iapply (crd_ m ρ K c 13 13 15 rfl rfl) $$ HS; iintro HS
  iapply (snd_ m ρ K c 13 14 15 rfl (by decide) (upv c 13 14 rfl (d := ⟨k0_dev30 c, k0_dev30_lt c⟩) (k0_dev30_eq c)) rfl rfl rfl rfl) $$ HS; iintro HS
  iapply (crd_ m ρ K c 14 14 15 rfl rfl) $$ HS; iintro HS
  iapply (snd_ m ρ K c 14 15 15 rfl (by decide) (upv c 14 15 rfl (d := ⟨k0_dev31 c, k0_dev31_lt c⟩) (k0_dev31_eq c)) rfl rfl rfl rfl) $$ HS; iintro HS
  iapply (ret_ c)
  ispecialize Hk $$ HS
  iapply Hk

theorem part17 (v2 : BitVec 32) (v : FVec F S32x512 .f32) (w : BitVec 32) {Q : _ → sProp 𝕄} :
    stE m ρ K c 2 ⊢ iprop((stE m ρ K c 4 -∗ Q (k0_pay14 v (slotVal m ρ c 2) (slotVal m ρ c 3))) -∗ WP c (onBufs (k0_part17 (F := F)) v2 v w) Q) := by
  rw [k0_part17_eq_skeleton]
  unfold onBufs k0_part17_skel
  simp only [semSignalWord, semWaitWord, Prog.lift, Prog.bind_op, Prog.bind_ret, Prog.pure_eq_ret, wp_deviceId]
  iintro HS Hk
  iapply (rcv_ m ρ K c 2 2 3 rfl rfl rfl rfl) $$ HS; iintro HS
  iapply (ld_ m ρ K c 2 3 (by decide)) $$ HS; iintro HS
  iapply (rcv_ m ρ K c 3 3 4 rfl rfl rfl rfl) $$ HS; iintro HS
  iapply (ld_ m ρ K c 3 4 (by decide)) $$ HS; iintro HS
  iapply (ret_ c)
  ispecialize Hk $$ HS
  iapply Hk

theorem part18 (v2 : BitVec 32) (v : FVec F S32x512 .f32) {Q : _ → sProp 𝕄} :
    stE m ρ K c 4 ⊢ iprop((stE m ρ K c 7 -∗ Q (k0_pay15 v (slotVal m ρ c 4) (slotVal m ρ c 5))) -∗ WP c (onBufs (k0_part18 (F := F)) v2 v) Q) := by
  rw [k0_part18_eq_skeleton]
  unfold onBufs k0_part18_skel
  simp only [semSignalWord, semWaitWord, Prog.lift, Prog.bind_op, Prog.bind_ret, Prog.pure_eq_ret, wp_deviceId]
  iintro HS Hk
  iapply (rcv_ m ρ K c 4 4 5 rfl rfl rfl rfl) $$ HS; iintro HS
  iapply (ld_ m ρ K c 4 5 (by decide)) $$ HS; iintro HS
  iapply (rcv_ m ρ K c 5 5 6 rfl rfl rfl rfl) $$ HS; iintro HS
  iapply (ld_ m ρ K c 5 6 (by decide)) $$ HS; iintro HS
  iapply (rcv_ m ρ K c 6 6 7 rfl rfl rfl rfl) $$ HS; iintro HS
  iapply (ret_ c)
  ispecialize Hk $$ HS
  iapply Hk

theorem part19 (v2 : BitVec 32) (v : FVec F S32x512 .f32) {Q : _ → sProp 𝕄} :
    stE m ρ K c 7 ⊢ iprop((stE m ρ K c 9 -∗ Q (k0_pay16 v (slotVal m ρ c 6) (slotVal m ρ c 7) (slotVal m ρ c 8))) -∗ WP c (onBufs (k0_part19 (F := F)) v2 v) Q) := by
  rw [k0_part19_eq_skeleton]
  unfold onBufs k0_part19_skel
  simp only [semSignalWord, semWaitWord, Prog.lift, Prog.bind_op, Prog.bind_ret, Prog.pure_eq_ret, wp_deviceId]
  iintro HS Hk
  iapply (ld_ m ρ K c 6 7 (by decide)) $$ HS; iintro HS
  iapply (rcv_ m ρ K c 7 7 8 rfl rfl rfl rfl) $$ HS; iintro HS
  iapply (ld_ m ρ K c 7 8 (by decide)) $$ HS; iintro HS
  iapply (rcv_ m ρ K c 8 8 9 rfl rfl rfl rfl) $$ HS; iintro HS
  iapply (ld_ m ρ K c 8 9 (by decide)) $$ HS; iintro HS
  iapply (ret_ c)
  ispecialize Hk $$ HS
  iapply Hk

theorem part20 (v2 : BitVec 32) (v : FVec F S32x512 .f32) {Q : _ → sProp 𝕄} :
    stE m ρ K c 9 ⊢ iprop((stE m ρ K c 11 -∗ Q (k0_pay17 v (slotVal m ρ c 9) (slotVal m ρ c 10))) -∗ WP c (onBufs (k0_part20 (F := F)) v2 v) Q) := by
  rw [k0_part20_eq_skeleton]
  unfold onBufs k0_part20_skel
  simp only [semSignalWord, semWaitWord, Prog.lift, Prog.bind_op, Prog.bind_ret, Prog.pure_eq_ret, wp_deviceId]
  iintro HS Hk
  iapply (rcv_ m ρ K c 9 9 10 rfl rfl rfl rfl) $$ HS; iintro HS
  iapply (ld_ m ρ K c 9 10 (by decide)) $$ HS; iintro HS
  iapply (rcv_ m ρ K c 10 10 11 rfl rfl rfl rfl) $$ HS; iintro HS
  iapply (ld_ m ρ K c 10 11 (by decide)) $$ HS; iintro HS
  iapply (ret_ c)
  ispecialize Hk $$ HS
  iapply Hk

theorem part21 (v2 : BitVec 32) (v : FVec F S32x512 .f32) {Q : _ → sProp 𝕄} :
    stE m ρ K c 11 ⊢ iprop((stE m ρ K c 14 -∗ Q (k0_pay18 v (slotVal m ρ c 11) (slotVal m ρ c 12))) -∗ WP c (onBufs (k0_part21 (F := F)) v2 v) Q) := by
  rw [k0_part21_eq_skeleton]
  unfold onBufs k0_part21_skel
  simp only [semSignalWord, semWaitWord, Prog.lift, Prog.bind_op, Prog.bind_ret, Prog.pure_eq_ret, wp_deviceId]
  iintro HS Hk
  iapply (rcv_ m ρ K c 11 11 12 rfl rfl rfl rfl) $$ HS; iintro HS
  iapply (ld_ m ρ K c 11 12 (by decide)) $$ HS; iintro HS
  iapply (rcv_ m ρ K c 12 12 13 rfl rfl rfl rfl) $$ HS; iintro HS
  iapply (ld_ m ρ K c 12 13 (by decide)) $$ HS; iintro HS
  iapply (rcv_ m ρ K c 13 13 14 rfl rfl rfl rfl) $$ HS; iintro HS
  iapply (ret_ c)
  ispecialize Hk $$ HS
  iapply Hk

theorem part23 {Q : _ → sProp 𝕄} :
    stF m ρ K c 1 ⊢ iprop((stF m ρ K c 6 -∗ Q ⟨⟩) -∗ WP c (onBufs (k0_part23 (F := F))) Q) := by
  rw [k0_part23_eq_skeleton]
  unfold onBufs k0_part23_skel
  simp only [semSignalWord, semWaitWord, Prog.lift, Prog.bind_op, Prog.bind_ret, Prog.pure_eq_ret, wp_deviceId]
  iintro HS Hk
  iapply (out_ m ρ K c 1 1 2 rfl rfl rfl rfl) $$ HS; iintro HS
  iapply (out_ m ρ K c 2 2 3 rfl rfl rfl rfl) $$ HS; iintro HS
  iapply (out_ m ρ K c 3 3 4 rfl rfl rfl rfl) $$ HS; iintro HS
  iapply (out_ m ρ K c 4 4 5 rfl rfl rfl rfl) $$ HS; iintro HS
  iapply (out_ m ρ K c 5 5 6 rfl rfl rfl rfl) $$ HS; iintro HS
  iapply (ret_ c)
  ispecialize Hk $$ HS
  iapply Hk

theorem part24 {Q : _ → sProp 𝕄} :
    stF m ρ K c 6 ⊢ iprop((stF m ρ K c 10 -∗ Q ⟨⟩) -∗ WP c (onBufs (k0_part24 (F := F))) Q) := by
  rw [k0_part24_eq_skeleton]
  unfold onBufs k0_part24_skel
  simp only [semSignalWord, semWaitWord, Prog.lift, Prog.bind_op, Prog.bind_ret, Prog.pure_eq_ret, wp_deviceId]
  iintro HS Hk
  iapply (out_ m ρ K c 6 6 7 rfl rfl rfl rfl) $$ HS; iintro HS
  iapply (out_ m ρ K c 7 7 8 rfl rfl rfl rfl) $$ HS; iintro HS
  iapply (out_ m ρ K c 8 8 9 rfl rfl rfl rfl) $$ HS; iintro HS
  iapply (out_ m ρ K c 9 9 10 rfl rfl rfl rfl) $$ HS; iintro HS
  iapply (ret_ c)
  ispecialize Hk $$ HS
  iapply Hk

theorem part25 {Q : _ → sProp 𝕄} :
    stF m ρ K c 10 ⊢ iprop((stF m ρ K c 14 -∗ Q ⟨⟩) -∗ WP c (onBufs (k0_part25 (F := F))) Q) := by
  rw [k0_part25_eq_skeleton]
  unfold onBufs k0_part25_skel
  simp only [semSignalWord, semWaitWord, Prog.lift, Prog.bind_op, Prog.bind_ret, Prog.pure_eq_ret, wp_deviceId]
  iintro HS Hk
  iapply (out_ m ρ K c 10 10 11 rfl rfl rfl rfl) $$ HS; iintro HS
  iapply (out_ m ρ K c 11 11 12 rfl rfl rfl rfl) $$ HS; iintro HS
  iapply (out_ m ρ K c 12 12 13 rfl rfl rfl rfl) $$ HS; iintro HS
  iapply (out_ m ρ K c 13 13 14 rfl rfl rfl rfl) $$ HS; iintro HS
  iapply (ret_ c)
  ispecialize Hk $$ HS
  iapply Hk

end Cert.MoE

end
-- ==== Proof.Buffers.lean ====
/-
  The buffers of the body: a doubled operand read rotated, the partial results cut into chunks, the receive buffer cut
  into slots.
-/
module

public import proofs.«01_k».proof.Proof.Sched

@[expose] public section

noncomputable section

namespace Cert.MoE

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## A doubled operand, read rotated -/

abbrev top2 (w : ℕ) : Shape := ⟨2, ![1024, w]⟩
abbrev one2 (w : ℕ) : Shape := ⟨2, ![512, w]⟩

theorem inb_half (w o : ℕ) (h : o + 512 ≤ 1024) : ∀ a, (![o, 0] : Fin 2 → Nat) a + (one2 w).size a ≤ (top2 w).size a := by
  intro a
  match a with
  | ⟨0, _⟩ => exact h
  | ⟨1, _⟩ => show 0 + w ≤ w; omega

omit [FloatOps F] in
/-- An operand stored twice, one copy below the other, and read from row `32 (c + 1)` on is the operand rotated. -/
theorem rot_read {w : ℕ} {e : EltTy} {sp : Space} (v : View sig .tc sp (top2 w) e) (f : v.ty.Contents (Elt F)) (a : (one2 w).Idx → Elt F e) (c : Dev nD)
    (h0 : ∀ x, (![0, 0] : Fin 2 → Nat) x + (one2 w).size x ≤ (top2 w).size x) (h1 : ∀ x, (![512, 0] : Fin 2 → Nat) x + (one2 w).size x ≤ (top2 w).size x)
    (off : Fin 2 → Nat) (hoff : off = ![32 * ((c.val + 1) % 16), 0]) (h2 : ∀ x, off x + (one2 w).size x ≤ (top2 w).size x) :
    v.readAt (Elt F) (Rect.unit (s := top2 w) off (one2 w).size h2).toLoadRect
        ((v.slice (Rect.unit (s := top2 w) ![512, 0] (one2 w).size h1)).write (Elt F)
          ((v.slice (Rect.unit (s := top2 w) ![0, 0] (one2 w).size h0)).write (Elt F) f a Finset.univ) a Finset.univ)
      = rot c a := by
  subst hoff
  funext y
  have hy0 : (y 0).val < 512 := (y 0).isLt
  have hc : (c.val + 1) % 16 < 16 := Nat.mod_lt _ (by decide)
  rw [View.readAt_apply]
  unfold rot
  by_cases hlt : 32 * ((c.val + 1) % 16) + (y 0).val < 512
  · rw [View.read_slice_write_of_not_mem]
    · have hx : (Rect.unit (s := top2 w) ![32 * ((c.val + 1) % 16), 0] (one2 w).size h2).toLoadRect.idx y
          = (Rect.unit (s := top2 w) ![0, 0] (one2 w).size h0).emb
              (ix2 (⟨((y 0).val + 32 * ((c.val + 1) % 16)) % 512, Nat.mod_lt _ (by decide)⟩ : Fin 512) (y 1)) := by
        funext b
        apply Fin.ext
        match b with
        | ⟨0, _⟩ =>
          show 32 * ((c.val + 1) % 16) + 1 * (y 0).val = 0 + 1 * (((y 0).val + 32 * ((c.val + 1) % 16)) % 512)
          omega
        | ⟨1, _⟩ => rfl
      rw [hx]
      exact View.read_slice_write_emb _ _ _ (Finset.mem_univ _)
    · intro hm
      obtain ⟨z, -, hz⟩ := Finset.mem_map.mp hm
      have := congrArg (fun i => (i 0).val) hz
      have h' : 512 + 1 * (z 0).val = 32 * ((c.val + 1) % 16) + 1 * (y 0).val := this
      omega
  · have hx : (Rect.unit (s := top2 w) ![32 * ((c.val + 1) % 16), 0] (one2 w).size h2).toLoadRect.idx y
        = (Rect.unit (s := top2 w) ![512, 0] (one2 w).size h1).emb
            (ix2 (⟨((y 0).val + 32 * ((c.val + 1) % 16)) % 512, Nat.mod_lt _ (by decide)⟩ : Fin 512) (y 1)) := by
      funext b
      apply Fin.ext
      match b with
      | ⟨0, _⟩ =>
        show 32 * ((c.val + 1) % 16) + 1 * (y 0).val = 512 + 1 * (((y 0).val + 32 * ((c.val + 1) % 16)) % 512)
        omega
      | ⟨1, _⟩ => rfl
    rw [hx]
    exact View.read_slice_write_emb _ _ _ (Finset.mem_univ _)

theorem pay1_eq (v : Vec F S512x256 .f32) : k0_pay1 v = v := by unfold k0_pay1; simp only [shapeCast_self]
theorem pay2_eq (v : Vec F S512x256 .f32) : k0_pay2 v = v := by unfold k0_pay2; simp only [shapeCast_self]
theorem pay3_eq (v : Vec F S512x2 .i32) : k0_pay3 (F := F) v = v := by unfold k0_pay3; simp only [shapeCast_self]
theorem pay4_eq (v : Vec F S512x2 .i32) : k0_pay4 (F := F) v = v := by unfold k0_pay4; simp only [shapeCast_self]

/-! ## The chunks of the partial results -/

/-- The elements of the `k`-th copy's chunk, -/
abbrev ckSet (k : Fin 15) : Finset (cc0_scratch0 : Ref sig .tc).ty.shape.Idx := (pChunk (ck k)).view.set
/-- and of several. -/
abbrev ckSets (S : Finset (Fin 15)) : Finset (cc0_scratch0 : Ref sig .tc).ty.shape.Idx := S.biUnion ckSet

/-- The row of an element. -/
abbrev row (i : S512x512.Idx) : ℕ := (i 0).val

theorem mem_ckSet (k : Fin 15) (i : S512x512.Idx) : i ∈ ckSet k ↔ row i / 32 = k.val := by
  have hk := k.isLt
  have h1 : (i 1).val < 512 := (i 1).isLt
  rw [show ckSet k = (rectP (ck k)).set from View.set_slice_whole _ _, Rect.mem_set_unit]
  constructor
  · intro h
    have := h 0
    have h' : 32 * k.val ≤ row i ∧ row i < 32 * k.val + 32 := this
    omega
  · intro h a
    match a with
    | ⟨0, _⟩ =>
      show 32 * k.val ≤ row i ∧ row i < 32 * k.val + 32
      omega
    | ⟨1, _⟩ =>
      show 0 ≤ (i 1).val ∧ (i 1).val < 0 + 512
      omega

theorem mem_ckSets (S : Finset (Fin 15)) (i : S512x512.Idx) : i ∈ ckSets S ↔ ∃ k ∈ S, row i / 32 = k.val := by
  simp only [ckSets, Finset.mem_biUnion]
  exact exists_congr fun k => and_congr_right fun _ => mem_ckSet k i

theorem ckSet_disjoint (k k' : Fin 15) (h : k ≠ k') : Disjoint (ckSet k) (ckSet k') := by
  rw [Finset.disjoint_left]
  intro i hi hi'
  exact h (Fin.ext ((mem_ckSet k i).mp hi ▸ (mem_ckSet k' i).mp hi'))

/-- The rows from 256 on, -/
def botSet : Finset (cc0_scratch0 : Ref sig .tc).ty.shape.Idx := Finset.univ \ ckSets (til 8)
/-- and those from 480 on, which stay. -/
def ownSet : Finset (cc0_scratch0 : Ref sig .tc).ty.shape.Idx := botSet \ ckSets (fr 8)

theorem mem_botSet (i : S512x512.Idx) : i ∈ botSet ↔ 256 ≤ row i := by
  have h0 : row i < 512 := (i 0).isLt
  unfold botSet
  rw [Finset.mem_sdiff, mem_ckSets]
  simp only [Finset.mem_univ, true_and, til, Finset.mem_filter]
  constructor
  · intro h; by_contra hn; exact h ⟨⟨row i / 32, by omega⟩, by show row i / 32 < 8; omega, rfl⟩
  · rintro h ⟨k, hk, he⟩; omega

theorem mem_ownSet (i : S512x512.Idx) : i ∈ ownSet ↔ 480 ≤ row i := by
  have h0 : row i < 512 := (i 0).isLt
  unfold ownSet
  rw [Finset.mem_sdiff, mem_botSet, mem_ckSets]
  simp only [Finset.mem_univ, true_and, fr, Finset.mem_filter]
  constructor
  · rintro ⟨h1, h⟩; by_contra hn; exact h ⟨⟨row i / 32, by omega⟩, by show 8 ≤ row i / 32; omega, rfl⟩
  · rintro h; exact ⟨by omega, by rintro ⟨k, hk, he⟩; omega⟩

theorem ownSet_eq : ownSet = Finset.univ \ ckSets Finset.univ := by
  ext i
  have h0 : row i < 512 := (i 0).isLt
  rw [mem_ownSet, Finset.mem_sdiff, mem_ckSets]
  simp only [Finset.mem_univ, true_and]
  constructor
  · rintro h ⟨k, he⟩; omega
  · intro h; by_contra hn; exact h ⟨⟨row i / 32, by omega⟩, rfl⟩

theorem frSub : ckSets (fr 8) ⊆ botSet := by
  intro i hi
  obtain ⟨k, hk, he⟩ := (mem_ckSets _ i).mp hi
  have := (Finset.mem_filter.mp hk).2
  exact (mem_botSet i).mpr (by omega)

abbrev rTop : Rect S512x512 := Rect.unit (s := S512x512) ![0, 0] S256x512.size inb_S512x512_S256x512_0_0
abbrev rBot : Rect S512x512 := Rect.unit (s := S512x512) ![256, 0] S256x512.size inb_S512x512_S256x512_256_0

theorem bot_sub : ((pM.access rBot).setOn Finset.univ : Finset (cc0_scratch0 : Ref sig .tc).ty.shape.Idx) ⊆ botSet := by
  intro i hi
  obtain ⟨z, -, hz⟩ := Finset.mem_map.mp hi
  refine (mem_botSet i).mpr ?_
  rw [← hz]
  show 256 ≤ 256 + 1 * (z 0).val
  omega
theorem bot_sub_load : (pM.view.setOn rBot.toLoadRect.set : Finset (cc0_scratch0 : Ref sig .tc).ty.shape.Idx) ⊆ botSet := by
  refine Finset.Subset.trans ?_ bot_sub
  rw [show (pM.access rBot).setOn Finset.univ = pM.view.setOn rBot.set from View.set_slice _ _]
theorem own_sub : (pM.view.setOn (rectP 15).toLoadRect.set : Finset (cc0_scratch0 : Ref sig .tc).ty.shape.Idx) ⊆ ownSet := by
  have h : (pM.access (rectP 15)).set ⊆ ownSet := by
    intro i hi
    obtain ⟨z, -, hz⟩ := Finset.mem_map.mp hi
    refine (mem_ownSet i).mpr ?_
    rw [← hz]
    show 480 ≤ 32 * 15 + 1 * (z 0).val
    omega
  refine Finset.Subset.trans ?_ h
  rw [show (pM.access (rectP 15)).set = pM.view.setOn (rectP 15).set from View.set_slice _ _]

theorem pfin_top (c : Dev nD) (f : (cc0_scratch0 : Ref sig .tc).ty.Contents (Elt F)) (i : S512x512.Idx) (h : row i < 256) :
    (pM.access rTop).write (Elt F) f (pT m ρ c) Finset.univ i = pfin m ρ c i := by
  have hi : i = (pM.access rTop).emb (ix2 (⟨(i 0).val, h⟩ : Fin 256) (i 1)) := by
    funext b
    apply Fin.ext
    match b with
    | ⟨0, _⟩ => show (i 0).val = 0 + 1 * (i 0).val; omega
    | ⟨1, _⟩ => show (i 1).val = 0 + 1 * (i 1).val; omega
  unfold pfin
  rw [dif_pos (show (show Fin 512 from i 0).val < 256 from h)]
  conv_lhs => rw [hi]
  exact View.write_emb_of_mem _ _ (Finset.mem_univ _)

theorem pfin_bot (c : Dev nD) (f : (cc0_scratch0 : Ref sig .tc).ty.Contents (Elt F)) (i : S512x512.Idx) (h : 256 ≤ row i) :
    (pM.access rBot).write (Elt F) f (pB m ρ c) Finset.univ i = pfin m ρ c i := by
  have h0 : (i 0).val < 512 := (i 0).isLt
  have hi : i = (pM.access rBot).emb (ix2 (⟨(i 0).val - 256, by omega⟩ : Fin 256) (i 1)) := by
    funext b
    apply Fin.ext
    match b with
    | ⟨0, _⟩ => show (i 0).val = 256 + 1 * ((i 0).val - 256); have : 256 ≤ (i 0).val := h; omega
    | ⟨1, _⟩ => show (i 1).val = 0 + 1 * (i 1).val; omega
  unfold pfin
  rw [dif_neg (show ¬ (show Fin 512 from i 0).val < 256 from Nat.not_lt.mpr h)]
  conv_lhs => rw [hi]
  exact View.write_emb_of_mem _ _ (Finset.mem_univ _)

variable (c : Dev nD)

/-- The partial results' location. -/
abbrev pLoc : Loc nD τ sig := (c : Thread nD τ).loc cc0_scratch0

theorem chunks_of (S : Finset (Fin 15)) :
    (pLoc c ↦[ckSets S]{fullShare} pfin m ρ c : sProp 𝕄) = bigSep S fun k => chunkIn m ρ c (ck k) := by
  have h := pointsTo_biUnion (Ix := Unit) (Val := Elt F) (Name := ℕ) (U := UU) (Lvl := ℕ) (ℓ := pLoc c) (q := fullShare) (f := pfin m ρ c) S ckSet fun k _ k' _ h => ckSet_disjoint k k' h
  rw [show ckSets S = S.biUnion ckSet from rfl, h]
  rfl

/-- The upper half stored: its chunks, and the rest. -/
theorem top_split (f : (cc0_scratch0 : Ref sig .tc).ty.Contents (Elt F)) :
    (pLoc c ↦{fullShare} (pM.access rTop).write (Elt F) f (pT m ρ c) Finset.univ : sProp 𝕄)
      ⊢ iprop((bigSep (til 8) fun k => chunkIn m ρ c (ck k))
        ∗ pLoc c ↦[botSet]{fullShare} (pM.access rTop).write (Elt F) f (pT m ρ c) Finset.univ) := by
  refine (pointsTo_split_subset (Finset.subset_univ (ckSets (til 8)))).1.trans ?_
  rw [← chunks_of]
  have h : (pLoc c ↦[ckSets (til 8)]{fullShare} (pM.access rTop).write (Elt F) f (pT m ρ c) Finset.univ : sProp 𝕄)
      = pLoc c ↦[ckSets (til 8)]{fullShare} pfin m ρ c := pointsTo_congr fun i hi => by
    obtain ⟨k, hk, he⟩ := (mem_ckSets _ i).mp hi
    have := (Finset.mem_filter.mp hk).2
    exact pfin_top m ρ c f i (by omega)
  exact sep_mono (Entails.of_eq h) Entails.rfl

/-- The lower half stored: its chunks, and the one that stays. -/
theorem bot_split (f : (cc0_scratch0 : Ref sig .tc).ty.Contents (Elt F)) :
    (pLoc c ↦[botSet]{fullShare} (pM.access rBot).write (Elt F) f (pB m ρ c) Finset.univ : sProp 𝕄)
      ⊢ iprop((bigSep (fr 8) fun k => chunkIn m ρ c (ck k)) ∗ pLoc c ↦[ownSet]{fullShare} pfin m ρ c) := by
  have h : (pLoc c ↦[botSet]{fullShare} (pM.access rBot).write (Elt F) f (pB m ρ c) Finset.univ : sProp 𝕄)
      = pLoc c ↦[botSet]{fullShare} pfin m ρ c := pointsTo_congr fun i hi => pfin_bot m ρ c f i ((mem_botSet i).mp hi)
  refine (Entails.of_eq h).trans ((pointsTo_split_subset frSub).1.trans ?_)
  rw [← chunks_of]
  exact Entails.rfl

/-- All chunks back. -/
theorem chunks_join :
    iprop((bigSep Finset.univ fun k : Fin 15 => chunkAny (F := F) c (ck k)) ∗ pLoc c ↦[ownSet]{fullShare} pfin m ρ c)
      ⊢ anyAt (F := F) c cc0_scratch0 := by
  have h := Ring.pointsTo_sub_blocks_join_exists (Ix := Unit) (Val := Elt F) (Name := ℕ) (U := UU) (Lvl := ℕ) (ℓ := pLoc c) (q := fullShare) ckSet ckSet_disjoint (ckSets Finset.univ) rfl (pfin m ρ c)
  iintro ⟨H, Hown⟩
  ihave H := h $$ [H]
  · unfold chunkAny; iexact H
  icases H with ⟨%g, H⟩
  iexists ((ckSets Finset.univ).piecewise g (pfin m ρ c))
  iapply (pointsTo_join_subset (Finset.subset_univ (ckSets Finset.univ)))
  isplitl [H]; · iexact H
  rw [← ownSet_eq]; iexact Hown

/-! ## The slots of the receive buffer -/

/-- The receive buffer's location, -/
abbrev rLoc : Loc nD τ sig := (c : Thread nD τ).loc cc0_scratch1
/-- and a slot's elements. -/
abbrev slSet (k : Fin 15) : Finset (cc0_scratch1 : Ref sig .tc).ty.shape.Idx := (rectR k).set

theorem slot_set (k : Fin 15) : (rSlot k).view.set = slSet k :=
  (View.set_reshape _ _).trans (View.set_slice_whole _ _)

theorem slots_disjoint (k k' : Fin 15) (h : k ≠ k') : Disjoint (slSet k) (slSet k') :=
  Ring.lead_disjoint (s := S15x32x512) (NB := 15) 0 1 (fun k => ![k.val, 0, 0]) S1x32x512.size inbR (fun b => (Nat.one_mul _).symm) rfl k k' h

theorem slots_cover : Finset.univ.biUnion slSet = Finset.univ := by
  refine Ring.lead_cover (s := S15x32x512) (NB := 15) 0 1 (fun k => ![k.val, 0, 0]) S1x32x512.size inbR (fun b => (Nat.one_mul _).symm)
    ?_ rfl ?_ rfl
  · intro b a ha
    match a with
    | ⟨0, _⟩ => exact absurd rfl ha
    | ⟨1, _⟩ => rfl
    | ⟨2, _⟩ => rfl
  · intro a ha
    match a with
    | ⟨0, _⟩ => exact absurd rfl ha
    | ⟨1, _⟩ => rfl
    | ⟨2, _⟩ => rfl

omit [FloatOps F] in
theorem slotAny_eq (k : Fin 15) : slotAny (F := F) c k = iprop(∃ f, rLoc c ↦[slSet k]{fullShare} f) := by
  unfold slotAny; rw [slot_set]

omit [FloatOps F] in
theorem slots_of : anyAt (F := F) c cc0_scratch1 ⊢ bigSep Finset.univ fun k : Fin 15 => slotAny (F := F) c k := by
  iintro ⟨%f, H⟩
  have h := Ring.pointsTo_blocks (Ix := Unit) (Val := Elt F) (Name := ℕ) (U := UU) (Lvl := ℕ) (ℓ := rLoc c) (q := fullShare) slSet slots_disjoint slots_cover f
  ihave H := (Entails.of_eq h) $$ H
  have h' : bigSep Finset.univ (fun k : Fin 15 => (rLoc c ↦[slSet k]{fullShare} f : sProp 𝕄)) ⊢ bigSep Finset.univ fun k : Fin 15 => slotAny (F := F) c k :=
    bigSep_mono fun k _ => by
      rw [slotAny_eq]
      show iprop(rLoc c ↦[slSet k]{fullShare} f) ⊢ _
      iintro H; iexists f; iexact H
  iapply h'
  iexact H

theorem slots_join : (bigSep Finset.univ fun k : Fin 15 => slotIn m ρ c k) ⊢ anyAt (F := F) c cc0_scratch1 := by
  have h := Ring.pointsTo_blocks_join_exists (Ix := Unit) (Val := Elt F) (Name := ℕ) (U := UU) (Lvl := ℕ) (ℓ := rLoc c) (q := fullShare) slSet slots_disjoint slots_cover (m (rLoc c))
  refine BIBase.Entails.trans (bigSep_mono fun k _ => ?_) h
  show _ ⊢ iprop(∃ f, rLoc c ↦[slSet k]{fullShare} f)
  rw [← slotAny_eq]
  unfold slotIn slotAny
  iintro ⟨%f, -, H⟩; iexists f; iexact H

end Cert.MoE

end
-- ==== Proof.Parts2.lean ====
/-
  The parts of the program that load and store the device's own buffers, and the body put together.
-/
module

public import proofs.«01_k».proof.Proof.Parts
public import proofs.«01_k».proof.Proof.Buffers

@[expose] public section

noncomputable section

namespace Cert.MoE

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × KK → ℕ) (c : Dev nD)

/-- A whole buffer of device `c` at contents. -/
abbrev at_ (b : Ref sig .tc) (f : b.ty.Contents (Elt F)) : sProp 𝕄 := ((c : Thread nD τ).loc b) ↦{fullShare} f

theorem z2 : (![0, 0] : Fin 2 → Nat) = fun _ => 0 := by funext a; match a with | ⟨0, _⟩ => rfl | ⟨1, _⟩ => rfl

theorem x_read (f : (cc0_stg0_0 : Ref sig .tc).ty.Contents (Elt F)) :
    xM.view.readAt (Elt F) (Rect.unit (s := S512x256) ![0, 0] ![512, 256] inb_S512x256_S512x256_0_0).toLoadRect f = f :=
  Memref.readAt_unit_zero (Elt F) cc0_stg0_0 z2 _ f
theorem w_read (f : (cc0_stg1_0 : Ref sig .tc).ty.Contents (Elt F)) :
    wM.view.readAt (Elt F) (Rect.unit (s := S256x32) ![0, 0] ![256, 32] inb_S256x32_S256x32_0_0).toLoadRect f = f :=
  Memref.readAt_unit_zero (Elt F) cc0_stg1_0 z2 _ f
theorem i_read (f : (cc0_stg2_0 : Ref sig .tc).ty.Contents (Elt F)) :
    iM.view.readAt (Elt F) (Rect.unit (s := S512x2) ![0, 0] ![512, 2] inb_S512x2_S512x2_0_0).toLoadRect f = f :=
  Memref.readAt_unit_zero (Elt F) cc0_stg2_0 z2 _ f
theorem o_write (f : (cc0_stg4_0 : Ref sig .tc).ty.Contents (Elt F)) (w : FVec F S32x512 .f32) :
    (oM.access (Rect.unit (s := S32x512) ![0, 0] ![32, 512] inb_S32x512_S32x512_0_0)).write (Elt F) f w Finset.univ = w :=
  Memref.write_access_unit_zero_univ (Elt F) cc0_stg4_0 z2 _ f w

/-- The first half of a doubled operand stored. -/
def half (f : (cc0_scratch2 : Ref sig .tc).ty.Contents (Elt F)) : (cc0_scratch2 : Ref sig .tc).ty.Contents (Elt F) :=
  (x2M.access (Rect.unit (s := S1024x256) ![0, 0] S512x256.size inb_S1024x256_S512x256_0_0)).write (Elt F) f (xs m ρ c) Finset.univ

theorem part5 (v2 v w : BitVec 32) (f : (cc0_scratch2 : Ref sig .tc).ty.Contents (Elt F)) {Q : _ → sProp 𝕄} :
    iprop(stS m ρ K c 13 ∗ (dutyTok ER (barCell (nxt c)) 0 () ∗ cred (tallyAt (barCell c) () 1) ∗ atPos ER (barCell c) 0 ∅ 0)
        ∗ at_ c cc0_stg0_0 (xs m ρ c) ∗ at_ c cc0_scratch2 f)
      ⊢ iprop((iprop((owesE c (OR c 0) ∗ semVal (barCell c) 0) ∗ at_ c cc0_stg0_0 (xs m ρ c) ∗ at_ c cc0_scratch2 (half m ρ c f)) -∗ ∀ u, Q ⟨u, xs m ρ c⟩)
        -∗ WP c (onBufs (k0_part5 (F := F)) c v2 v w) Q) := by
  rw [k0_part5_eq_skeleton]
  unfold onBufs k0_part5_skel
  simp only [semSignalWord, semWaitWord, Prog.lift, Prog.bind_op, Prog.bind_ret, Prog.pure_eq_ret, wp_deviceId]
  iintro ⟨HS, ⟨Ht, Hc, Hat⟩, Hx, Hx2⟩ Hk
  iapply (sig_ m ρ K c 13 13 14 rfl rfl (dnv c 13 2 rfl (d := ⟨k0_dev14 c, k0_dev14_lt c⟩) (k0_dev14_eq c)) rfl) $$ HS; iintro HS
  iapply (sig_ m ρ K c 14 14 15 rfl rfl (dnv c 14 1 rfl (d := ⟨k0_dev15 c, k0_dev15_lt c⟩) (k0_dev15_eq c)) rfl) $$ HS; iintro HS
  unfold stS SS
  icases HS with ⟨#Hctx, ⟨-, HO⟩⟩
  iapply (step_barrier_signal m ρ K c ⟨k0_dev16 c, k0_dev16_lt c⟩ (Fin.ext (k0_dev16_eq c)) _ rfl) $$ [HO Ht]
  · isplitr; · iexact Hctx
    isplitl [HO] <;> iassumption
  iintro HO
  iapply (step_barrier_wait m ρ K c _ rfl) $$ [HO Hc Hat]
  · isplitr; · iexact Hctx
    isplitl [HO]; · iexact HO
    isplitl [Hc] <;> iassumption
  iintro HO
  iapply (wp_load 𝒱₀ (c : Thread nD τ) none Set.univ (m := xM) (S := Finset.univ) (Finset.subset_univ _)) $$ Hx; iintro Hx
  rw [x_read]
  iapply (wp_load 𝒱₀ (c : Thread nD τ) none Set.univ (m := x2M) (S := Finset.univ) (Finset.subset_univ _)) $$ Hx2; iintro Hx2
  iapply (wp_store 𝒱₀ (c : Thread nD τ) none Set.univ (m := x2M) (r := Rect.unit (s := S1024x256) ![0, 0] ![512, 256] inb_S1024x256_S512x256_0_0) (Mk := Finset.univ) (S := Finset.univ) (Finset.subset_univ _)) $$ Hx2; iintro Hx2
  iapply (wp_load 𝒱₀ (c : Thread nD τ) none Set.univ (m := xM) (S := Finset.univ) (Finset.subset_univ _)) $$ Hx; iintro Hx
  rw [x_read]
  iapply (wp_load 𝒱₀ (c : Thread nD τ) none Set.univ (m := x2M) (S := Finset.univ) (Finset.subset_univ _)) $$ Hx2; iintro Hx2
  rw [pay1_eq, pay2_eq]
  iapply (ret_ c)
  ispecialize Hk $$ [HO Hx Hx2]
  · isplitl [HO]; · iexact HO
    isplitl [Hx]; · iexact Hx
    unfold half; iexact Hx2
  iapply Hk

theorem part6 (v : BitVec 32) (f : (cc0_scratch2 : Ref sig .tc).ty.Contents (Elt F)) {Q : _ → sProp 𝕄} :
    iprop(at_ c cc0_stg1_0 (ws m ρ c) ∗ at_ c cc0_stg2_0 (is m ρ c) ∗ at_ c cc0_scratch2 (half m ρ c f) ∗ anyAt (F := F) c cc0_scratch3)
      ⊢ iprop((iprop(at_ c cc0_stg1_0 (ws m ρ c) ∗ at_ c cc0_stg2_0 (is m ρ c) ∗ anyAt (F := F) c cc0_scratch2 ∗ anyAt (F := F) c cc0_scratch3) -∗ Q ⟨xr m ρ c, cols, gates m ρ c⟩)
        -∗ WP c (onBufs (k0_part6 (F := F)) c v (xs m ρ c)) Q) := by
  rw [k0_part6_eq_skeleton]
  unfold onBufs k0_part6_skel
  simp only [semSignalWord, semWaitWord, Prog.lift, Prog.bind_op, Prog.bind_ret, Prog.pure_eq_ret, wp_deviceId]
  iintro ⟨Hw, Hi, Hx2, ⟨%f3, Hi2⟩⟩ Hk
  iapply (wp_store 𝒱₀ (c : Thread nD τ) none Set.univ (m := x2M) (r := Rect.unit (s := S1024x256) ![512, 0] ![512, 256] inb_S1024x256_S512x256_512_0) (Mk := Finset.univ) (S := Finset.univ) (Finset.subset_univ _)) $$ Hx2; iintro Hx2
  iapply (wp_load 𝒱₀ (c : Thread nD τ) none Set.univ (m := iM) (S := Finset.univ) (Finset.subset_univ _)) $$ Hi; iintro Hi
  rw [i_read]
  iapply (wp_load 𝒱₀ (c : Thread nD τ) none Set.univ (m := i2M) (S := Finset.univ) (Finset.subset_univ _)) $$ Hi2; iintro Hi2
  iapply (wp_store 𝒱₀ (c : Thread nD τ) none Set.univ (m := i2M) (r := Rect.unit (s := S1024x2) ![0, 0] ![512, 2] inb_S1024x2_S512x2_0_0) (Mk := Finset.univ) (S := Finset.univ) (Finset.subset_univ _)) $$ Hi2; iintro Hi2
  iapply (wp_load 𝒱₀ (c : Thread nD τ) none Set.univ (m := iM) (S := Finset.univ) (Finset.subset_univ _)) $$ Hi; iintro Hi
  rw [i_read]
  iapply (wp_load 𝒱₀ (c : Thread nD τ) none Set.univ (m := i2M) (S := Finset.univ) (Finset.subset_univ _)) $$ Hi2; iintro Hi2
  iapply (wp_store 𝒱₀ (c : Thread nD τ) none Set.univ (m := i2M) (r := Rect.unit (s := S1024x2) ![512, 0] ![512, 2] inb_S1024x2_S512x2_512_0) (Mk := Finset.univ) (S := Finset.univ) (Finset.subset_univ _)) $$ Hi2; iintro Hi2
  iapply (wp_load 𝒱₀ (c : Thread nD τ) none Set.univ (m := x2M) (S := Finset.univ) (Finset.subset_univ _)) $$ Hx2; iintro Hx2
  iapply (wp_load 𝒱₀ (c : Thread nD τ) none Set.univ (m := i2M) (S := Finset.univ) (Finset.subset_univ _)) $$ Hi2; iintro Hi2
  iapply (wp_load 𝒱₀ (c : Thread nD τ) none Set.univ (m := wM) (S := Finset.univ) (Finset.subset_univ _)) $$ Hw; iintro Hw
  rw [w_read, pay3_eq, pay4_eq]
  iapply (ret_ c)
  have hx := rot_read (F := F) x2M.view f (xs m ρ c) c inb_S1024x256_S512x256_0_0 inb_S1024x256_S512x256_512_0 (k0_off1 c) (k0_off1_eq c) (k0_off1_inb c)
  have hi := rot_read (F := F) i2M.view f3 (is m ρ c) c inb_S1024x2_S512x2_0_0 inb_S1024x2_S512x2_512_0 (k0_off2 c) (k0_off2_eq c) (k0_off2_inb c)
  have hx' : x2M.view.readAt (Elt F) (Rect.unit (s := S1024x256) (k0_off1 c) S512x256.size (k0_off1_inb c)).toLoadRect
      ((x2M.access (Rect.unit (s := S1024x256) ![512, 0] S512x256.size inb_S1024x256_S512x256_512_0)).write (Elt F) (half m ρ c f) (xs m ρ c) Finset.univ) = xr m ρ c := hx
  have hi' : i2M.view.readAt (Elt F) (Rect.unit (s := S1024x2) (k0_off2 c) S512x2.size (k0_off2_inb c)).toLoadRect
      ((i2M.access (Rect.unit (s := S1024x2) ![512, 0] S512x2.size inb_S1024x2_S512x2_512_0)).write (Elt F)
        ((i2M.access (Rect.unit (s := S1024x2) ![0, 0] S512x2.size inb_S1024x2_S512x2_0_0)).write (Elt F) f3 (is m ρ c) Finset.univ) (is m ρ c) Finset.univ) = ir m ρ c := hi
  rw [hx', hi', show iota Kind.tc S512x32 32 [1] iota_S512x32_d1_w32 = cols from rfl, show k0_pay5 (xr m ρ c) (ir m ρ c) (ws m ρ c) = gates m ρ c from rfl]
  iapply Hk
  isplitl [Hw]; · iexact Hw
  isplitl [Hi]; · iexact Hi
  isplitl [Hx2]
  · iexists _; iexact Hx2
  · iexists _; iexact Hi2

theorem part7 {Q : _ → sProp 𝕄} :
    iprop(ctx m ρ K ∗ SD (F := F) c 0 ∗ at_ c cc0_stg3_0 (es m ρ c) ∗ anyAt (F := F) c cc0_scratch0)
      ⊢ iprop((iprop(stT m ρ K c 0 8 ∗ at_ c cc0_stg3_0 (es m ρ c) ∗ (∃ f, pLoc c ↦[botSet]{fullShare} f))
          -∗ Q ⟨k0_pay6 (word c) cols (gates m ρ c), k0_pay7 (word c) cols (gates m ρ c), k0_pay8 (ew0 m ρ c), k0_pay9 (ew1 m ρ c), k0_pay10 (xr m ρ c)⟩)
        -∗ WP c (onBufs (k0_part7 (F := F)) (word c) (xr m ρ c) cols (gates m ρ c)) Q) := by
  rw [k0_part7_eq_skeleton]
  unfold onBufs k0_part7_skel
  simp only [semSignalWord, semWaitWord, Prog.lift, Prog.bind_op, Prog.bind_ret, Prog.pure_eq_ret, wp_deviceId]
  iintro ⟨#Hctx, HS, He, ⟨%f, Hp⟩⟩ Hk
  iapply (wp_load 𝒱₀ (c : Thread nD τ) none Set.univ (m := eM) (S := Finset.univ) (Finset.subset_univ _)) $$ He; iintro He
  iapply (wp_load 𝒱₀ (c : Thread nD τ) none Set.univ (m := eM) (S := Finset.univ) (Finset.subset_univ _)) $$ He; iintro He
  iapply (wp_load 𝒱₀ (c : Thread nD τ) none Set.univ (m := pM) (S := Finset.univ) (Finset.subset_univ _)) $$ Hp; iintro Hp
  iapply (wp_store 𝒱₀ (c : Thread nD τ) none Set.univ (m := pM) (r := rTop) (Mk := Finset.univ) (S := Finset.univ) (Finset.subset_univ _)) $$ Hp; iintro Hp
  ihave Hp := (top_split m ρ c f) $$ [Hp]
  · iexact Hp
  icases Hp with ⟨Hcs, Hb⟩
  iapply (crd_ m ρ K c 0 0 8 rfl rfl) $$ [HS Hcs]
  · unfold stD
    isplitr; · iexact Hctx
    isplitl [HS]; · iexact HS
    unfold chs
    rw [show mid 0 8 = til 8 from Finset.filter_congr fun j _ => by simp]
    iexact Hcs
  iintro HS
  iapply (ret_ c)
  ispecialize Hk $$ [HS He Hb]
  · isplitl [HS]; · iexact HS
    isplitl [He]; · iexact He
    iexists _; iexact Hb
  rw [show eM.view.readAt (Elt F) (Rect.unit (s := S2x256x512) ![0, 0, 0] ![1, 256, 512] inb_S2x256x512_S1x256x512_0_0_0).toLoadRect (es m ρ c) = ew0 m ρ c from rfl,
    show eM.view.readAt (Elt F) (Rect.unit (s := S2x256x512) ![1, 0, 0] ![1, 256, 512] inb_S2x256x512_S1x256x512_1_0_0).toLoadRect (es m ρ c) = ew1 m ρ c from rfl]
  iexact Hk

theorem part12 (v2 : BitVec 32) {Q : _ → sProp 𝕄} :
    iprop(stT m ρ K c 7 8 ∗ (∃ f, pLoc c ↦[botSet]{fullShare} f))
      ⊢ iprop((iprop(stT m ρ K c 9 15 ∗ pLoc c ↦[ownSet]{fullShare} pfin m ρ c) -∗ ∀ u, Q u)
        -∗ WP c (onBufs (k0_part12 (F := F)) c v2 (k0_pay6 (word c) cols (gates m ρ c)) (k0_pay7 (word c) cols (gates m ρ c)) (k0_pay8 (ew0 m ρ c)) (k0_pay9 (ew1 m ρ c)) (k0_pay10 (xr m ρ c))) Q) := by
  rw [k0_part12_eq_skeleton]
  unfold onBufs k0_part12_skel
  simp only [semSignalWord, semWaitWord, Prog.lift, Prog.bind_op, Prog.bind_ret, Prog.pure_eq_ret, wp_deviceId]
  iintro ⟨HS, ⟨%f, Hp⟩⟩ Hk
  iapply (snd_ m ρ K c 7 8 8 rfl (by decide) (upv c 7 8 rfl (d := ⟨k0_dev24 c, k0_dev24_lt c⟩) (k0_dev24_eq c)) rfl rfl rfl rfl) $$ HS; iintro HS
  iapply (wp_load 𝒱₀ (c : Thread nD τ) none Set.univ (m := pM) (S := botSet) bot_sub_load) $$ Hp; iintro Hp
  iapply (wp_store 𝒱₀ (c : Thread nD τ) none Set.univ (m := pM) (r := rBot) (Mk := Finset.univ) (S := (botSet : Finset (Idx (pLoc c)))) bot_sub) $$ Hp; iintro Hp
  ihave Hp := (bot_split m ρ c f) $$ [Hp]
  · iexact Hp
  icases Hp with ⟨Hcs, Hb⟩
  iapply (crd_ m ρ K c 8 8 15 rfl rfl) $$ [HS Hcs]
  · unfold stD
    icases HS with ⟨#Hctx, HS, -⟩
    isplitr; · iexact Hctx
    isplitl [HS]; · iexact HS
    unfold chs
    rw [show mid 8 15 = fr 8 from Finset.filter_congr fun j _ => by have := j.isLt; simp]
    iexact Hcs
  iintro HS
  iapply (snd_ m ρ K c 8 9 15 rfl (by decide) (upv c 8 9 rfl (d := ⟨k0_dev25 c, k0_dev25_lt c⟩) (k0_dev25_eq c)) rfl rfl rfl rfl) $$ HS; iintro HS
  iapply (crd_ m ρ K c 9 9 15 rfl rfl) $$ HS; iintro HS
  iapply (ret_ c)
  ispecialize Hk $$ [HS Hb]
  · isplitl [HS] <;> iassumption
  iapply Hk

theorem part16 (v2 : BitVec 32) {Q : _ → sProp 𝕄} :
    iprop(stE m ρ K c 0 ∗ pLoc c ↦[ownSet]{fullShare} pfin m ρ c)
      ⊢ iprop((iprop(stE m ρ K c 2 ∗ pLoc c ↦[ownSet]{fullShare} pfin m ρ c) -∗ ∀ u, Q ⟨k0_pay13 (chunkVal m ρ c 15) (slotVal m ρ c 0) (slotVal m ρ c 1), u⟩)
        -∗ WP c (onBufs (k0_part16 (F := F)) v2) Q) := by
  rw [k0_part16_eq_skeleton]
  unfold onBufs k0_part16_skel
  simp only [semSignalWord, semWaitWord, Prog.lift, Prog.bind_op, Prog.bind_ret, Prog.pure_eq_ret, wp_deviceId]
  iintro ⟨HS, Hp⟩ Hk
  iapply (wp_load 𝒱₀ (c : Thread nD τ) none Set.univ (m := pM) (S := ownSet) own_sub) $$ Hp; iintro Hp
  iapply (rcv_ m ρ K c 0 0 1 rfl rfl rfl rfl) $$ HS; iintro HS
  iapply (ld_ m ρ K c 0 1 (by decide)) $$ HS; iintro HS
  iapply (rcv_ m ρ K c 1 1 2 rfl rfl rfl rfl) $$ HS; iintro HS
  iapply (ld_ m ρ K c 1 2 (by decide)) $$ HS; iintro HS
  iapply (ret_ c)
  ispecialize Hk $$ [HS Hp]
  · isplitl [HS] <;> iassumption
  rw [show pM.view.readAt (Elt F) (rectP 15).toLoadRect (pfin m ρ c) = chunkVal m ρ c 15 from rfl]
  iapply Hk

theorem part22 (v2 : BitVec 32) (v : FVec F S32x512 .f32) {Q : _ → sProp 𝕄} :
    iprop(stE m ρ K c 14 ∗ (bigSep Finset.univ fun j => iprop(atPos ER (sdCell c j) 0 ∅ 0 ∗ cred (tallyAt (sdCell c j) () N))) ∗ anyAt (F := F) c cc0_stg4_0)
      ⊢ iprop((iprop(stF m ρ K c 1 ∗ (bigSep Finset.univ fun j => iprop(semVal (rvCell c j) 0 ∗ slotIn m ρ c j))
            ∗ at_ c cc0_stg4_0 (k0_pay19 v (slotVal m ρ c 13) (slotVal m ρ c 14))) -∗ Q ⟨⟩)
        -∗ WP c (onBufs (k0_part22 (F := F)) v2 v) Q) := by
  rw [k0_part22_eq_skeleton]
  unfold onBufs k0_part22_skel
  simp only [semSignalWord, semWaitWord, Prog.lift, Prog.bind_op, Prog.bind_ret, Prog.pure_eq_ret, wp_deviceId]
  iintro ⟨HS, Hsd, ⟨%f, Ho⟩⟩ Hk
  iapply (ld_ m ρ K c 13 14 (by decide)) $$ HS; iintro HS
  iapply (rcv_ m ρ K c 14 14 15 rfl rfl rfl rfl) $$ HS; iintro HS
  iapply (ld_ m ρ K c 14 15 (by decide)) $$ HS; iintro HS
  iapply (wp_load 𝒱₀ (c : Thread nD τ) none Set.univ (m := oM) (S := Finset.univ) (Finset.subset_univ _)) $$ Ho; iintro Ho
  iapply (wp_store 𝒱₀ (c : Thread nD τ) none Set.univ (m := oM) (r := Rect.unit (s := S32x512) ![0, 0] ![32, 512] inb_S32x512_S32x512_0_0) (Mk := Finset.univ) (S := Finset.univ) (Finset.subset_univ _)) $$ Ho; iintro Ho
  rw [o_write]
  unfold stE SE
  rw [fr_end, til_end]
  icases HS with ⟨#Hctx, -, Hrv, HO⟩
  iapply (out_ m ρ K c 0 0 1 rfl rfl rfl rfl) $$ [HO Hsd]
  · unfold stF SF
    rw [fr_zero, til_zero, bigSep_empty]
    isplitr; · iexact Hctx
    isplitl [Hsd]; · iexact Hsd
    isplitr; · iempintro
    iexact HO
  iintro HS
  iapply (ret_ c)
  iapply Hk
  isplitl [HS]; · iexact HS
  isplitl [Hrv]; · iexact Hrv
  iexact Ho

end Cert.MoE

end
-- ==== Proof.Body.lean ====
/-
  The body of one device, from its parts: what it starts with taken apart, the parts in turn, and what it ends with put
  together.
-/
module

public import proofs.«01_k».proof.Proof.Parts2
public import proofs.«01_k».proof.Proof.Gen.KernelIdeal.Points

@[expose] public section

noncomputable section

namespace Cert.MoE

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × KK → ℕ) (c : Dev nD)

omit [FloatOps F] in
/-- A family over all the cells of a device, by kind. -/
theorem by_kind (Φ : KK → sProp 𝕄) : bigSep Finset.univ Φ
    = iprop(((bigSep Finset.univ fun j => Φ (.inl (.inl j))) ∗ (bigSep Finset.univ fun j => Φ (.inl (.inr (.inl j)))) ∗ (bigSep Finset.univ fun j => Φ (.inl (.inr (.inr j)))))
      ∗ Φ (.inr ())) := by
  rw [BI.bigSep_univ_sum, BI.bigSep_univ_sum, BI.bigSep_univ_sum]
  rw [show (Finset.univ : Finset Unit) = {()} from rfl, BI.bigSep_singleton]
  rfl

omit [FloatOps F] in
/-- What a device starts with, by what it is for. -/
theorem start_split : iprop(linear (F := F) c ∗ creds (F := F) c) ⊢
    iprop((bigSep Finset.univ fun j => (dutyTok ER (crCell (dn c j) j) 0 () : sProp 𝕄))
      ∗ (dutyTok ER (barCell (nxt c)) 0 () ∗ cred (tallyAt (barCell c) () 1) ∗ atPos ER (barCell c) 0 ∅ 0)
      ∗ (bigSep Finset.univ (sendRes (F := F) c))
      ∗ (bigSep Finset.univ fun j => iprop(atPos ER (rvCell c j) 0 ∅ 0 ∗ cred (tallyAt (rvCell c j) () N)))
      ∗ (bigSep Finset.univ fun j => (atPos ER (sdCell c j) 0 ∅ 0 : sProp 𝕄))) := by
  unfold linear creds sendRes
  rw [by_kind, by_kind, bigSep_sep', bigSep_sep', bigSep_sep', bigSep_sep']
  simp only [payTok]
  iintro ⟨⟨⟨⟨Hpc, Hps, Hpr⟩, Hpb⟩, ⟨⟨Htc, Hts, Htr⟩, Htb⟩⟩, ⟨Hcc, Hcr, Hcb⟩⟩
  isplitl [Htc]; · iexact Htc
  isplitl [Htb Hcb Hpb]
  · isplitl [Htb]; · iexact Htb
    isplitl [Hcb]; · iexact Hcb
    iexact Hpb
  isplitl [Hpc Hcc Hts Htr]
  · isplitl [Hpc]; · iexact Hpc
    isplitl [Hcc]; · iexact Hcc
    isplitl [Hts]; · iexact Hts
    iexact Htr
  isplitl [Hpr Hcr]
  · isplitl [Hpr]; · iexact Hpr
    iexact Hcr
  iexact Hps

/-- The staged operands and the result's buffer before the body, -/
def pre : sProp 𝕄 := iprop(Φ₀ m ρ c ∗ owesE c (O₀ c) ∗ at_ c cc0_stg0_0 (xs m ρ c) ∗ at_ c cc0_stg1_0 (ws m ρ c) ∗ at_ c cc0_stg2_0 (is m ρ c)
  ∗ at_ c cc0_stg3_0 (es m ρ c) ∗ anyAt (F := F) c cc0_stg4_0)
/-- and after. -/
def post : sProp 𝕄 := iprop(Φ₁ (F := F) c ∗ owesE c 0 ∗ at_ c cc0_stg0_0 (xs m ρ c) ∗ at_ c cc0_stg1_0 (ws m ρ c) ∗ at_ c cc0_stg2_0 (is m ρ c)
  ∗ at_ c cc0_stg3_0 (es m ρ c) ∗ at_ c cc0_stg4_0 (outAt m ρ c))

theorem bind_ {α β : Type} {p : Prog (TpuEff nD τ sig (Elt F) Λ₀ .tc) α} {k : α → Prog (TpuEff nD τ sig (Elt F) Λ₀ .tc) β} {Q : β → sProp 𝕄} :
    WP c p (fun a => WP c (k a) Q) ⊢ WP c (p >>= k) Q := Entails.of_eq (wp_bind _ _ _ p k Q).symm

omit [FloatOps F] in
theorem sent_split : bigSep Finset.univ (sentRes (F := F) c)
    ⊢ iprop((bigSep Finset.univ fun j => (semVal (crCell c j) 0 : sProp 𝕄)) ∗ bigSep Finset.univ fun j => cred (tallyAt (sdCell c j) () N)) := by
  unfold sentRes
  rw [bigSep_sep']

/-- The body's end: every part of every buffer back, every cell closed. -/
theorem finish :
    iprop(stF m ρ K c 15 ∗ (bigSep Finset.univ fun j => iprop(semVal (rvCell c j) 0 ∗ slotIn m ρ c j)) ∗ (bigSep Finset.univ fun j => (semVal (crCell c j) 0 : sProp 𝕄))
        ∗ semVal (barCell c) 0 ∗ (pLoc c ↦[ownSet]{fullShare} pfin m ρ c) ∗ anyAt (F := F) c cc0_scratch2 ∗ anyAt (F := F) c cc0_scratch3)
      ⊢ iprop(Φ₁ (F := F) c ∗ owesE c 0) := by
  unfold stF SF Φ₁ scratch
  rw [til_end, fr_end, bigSep_empty, bigSep_sep', bigSep_sep', by_kind]
  iintro ⟨⟨-, -, ⟨Hzs, Hch⟩, HO⟩, ⟨Hzr, Hsl⟩, Hzc, Hzb, Hp, H2, H3⟩
  ihave H0 := (chunks_join m ρ c) $$ [Hch Hp]
  · isplitl [Hch] <;> iassumption
  ihave H1 := (slots_join m ρ c) $$ Hsl
  isplitr [HO]
  · isplitl [H0 H1 H2 H3]
    · isplitl [H0]; · iexact H0
      isplitl [H1]; · iexact H1
      isplitl [H2]; · iexact H2
      iexact H3
    isplitr [Hzb]
    · isplitl [Hzc]; · iexact Hzc
      isplitl [Hzs]; · iexact Hzs
      iexact Hzr
    iexact Hzb
  iexact HO

set_option maxRecDepth 8000 in
set_option maxHeartbeats 1600000 in
theorem sound_body {Q : PUnit → sProp 𝕄} :
    iprop(pre m ρ c ∗ (post m ρ c -∗ Q ⟨⟩)) ⊢ WP c (onBufs (cc0_body (F := F))) Q := by
  rw [cc0_body_eq_skeleton]
  unfold onBufs cc0_body_skel pre post Φ₀ start scratch
  iintro ⟨⟨⟨⟨⟨%K, #Hrec, Hlin⟩, Hcr, #Hlev⟩, H0, H1, ⟨%f2, H2⟩, H3⟩, HO, Hx, Hw, Hi, He, Ho⟩, Hk⟩
  ihave Hsp := (start_split (F := F) c) $$ [Hlin Hcr]
  · isplitl [Hlin] <;> iassumption
  icases Hsp with ⟨Htc, Hbar, Hsend, Hrv, Hsd⟩
  ihave Hslots := (slots_of (F := F) c) $$ H1
  -- the credits and the barrier
  iapply (bind_ c)
  iapply (part1 m ρ K c) $$ [Htc Hslots HO]
  · unfold stS ctx SS
    rw [fr_zero, bigSep_sep']
    isplitr
    · isplitr; · iexact Hrec
      iexact Hlev
    isplitl [Htc Hslots]
    · isplitl [Htc]; · iexact Htc
      iexact Hslots
    iexact HO
  iintro HS %v %w
  dsimp only
  iapply (bind_ c); iapply (part2 m ρ K c _ v w) $$ HS; iintro HS %v
  iapply (bind_ c); iapply (part3 m ρ K c _ v) $$ HS; iintro HS %v
  iapply (bind_ c); iapply (part4 m ρ K c _ v) $$ HS; iintro HS %v %w
  dsimp only
  iapply (bind_ c)
  iapply (part5 m ρ K c _ v w f2) $$ [HS Hbar Hx H2]
  · isplitl [HS]; · iexact HS
    isplitl [Hbar]; · iexact Hbar
    isplitl [Hx]; · iexact Hx
    iexact H2
  iintro ⟨⟨HO, Hzb⟩, Hx, H2⟩ %v
  dsimp only
  -- the gates and the first half
  iapply (bind_ c)
  iapply (part6 m ρ c v f2) $$ [Hw Hi H2 H3]
  · isplitl [Hw]; · iexact Hw
    isplitl [Hi]; · iexact Hi
    isplitl [H2]; · iexact H2
    iexact H3
  iintro ⟨Hw, Hi, H2, H3⟩
  dsimp only
  iapply (bind_ c)
  iapply (part7 m ρ K c) $$ [HO Hsend He H0]
  · isplitr
    · unfold ctx
      isplitr; · iexact Hrec
      iexact Hlev
    isplitl [HO Hsend]
    · unfold SD
      rw [fr_zero, til_zero, bigSep_empty]
      isplitl [Hsend]; · iexact Hsend
      isplitr; · iempintro
      iexact HO
    isplitl [He]; · iexact He
    iexact H0
  iintro ⟨HS, He, Hp⟩
  dsimp only
  -- the copies
  iapply (bind_ c); iapply (part8 m ρ K c) $$ HS; iintro HS
  iapply (bind_ c); iapply (part9 m ρ K c) $$ HS; iintro HS
  iapply (bind_ c); iapply (part10 m ρ K c) $$ HS; iintro HS
  iapply (bind_ c); iapply (part11 m ρ K c) $$ HS; iintro HS
  iapply (bind_ c)
  iapply (part12 m ρ K c) $$ [HS Hp]
  · isplitl [HS] <;> iassumption
  iintro ⟨HS, Hp⟩ %v
  iapply (bind_ c); iapply (part13 m ρ K c) $$ HS; iintro HS
  iapply (bind_ c); iapply (part14 m ρ K c) $$ HS; iintro HS
  iapply (bind_ c); iapply (part15 m ρ K c) $$ HS; iintro HS
  unfold stD SD
  rw [til_end, OR_end]
  icases HS with ⟨-, ⟨-, Hse, HO⟩, -⟩
  ihave Hse := (sent_split (F := F) c) $$ Hse
  icases Hse with ⟨Hzc, Hcsd⟩
  -- the landings, accumulated
  iapply (bind_ c)
  iapply (part16 m ρ K c) $$ [HO Hrv Hp]
  · isplitr [Hp]
    · unfold stE SE ctx
      rw [fr_zero, til_zero, bigSep_empty]
      isplitr
      · isplitr; · iexact Hrec
        iexact Hlev
      isplitl [Hrv]; · iexact Hrv
      isplitr; · iempintro
      iexact HO
    iexact Hp
  iintro ⟨HS, Hp⟩ %v
  dsimp only
  iapply (bind_ c); iapply (part17 m ρ K c) $$ HS; iintro HS
  iapply (bind_ c); iapply (part18 m ρ K c) $$ HS; iintro HS
  iapply (bind_ c); iapply (part19 m ρ K c) $$ HS; iintro HS
  iapply (bind_ c); iapply (part20 m ρ K c) $$ HS; iintro HS
  iapply (bind_ c); iapply (part21 m ρ K c) $$ HS; iintro HS
  iapply (bind_ c)
  iapply (part22 m ρ K c) $$ [HS Hsd Hcsd Ho]
  · isplitl [HS]; · iexact HS
    isplitl [Hsd Hcsd]
    · rw [bigSep_sep']
      isplitl [Hsd] <;> iassumption
    iexact Ho
  iintro ⟨HS, Hrv, Ho⟩
  -- the read-outs
  iapply (bind_ c); iapply (part23 m ρ K c) $$ HS; iintro HS
  iapply (bind_ c); iapply (part24 m ρ K c) $$ HS; iintro HS
  iapply (bind_ c); iapply (part25 m ρ K c) $$ HS; iintro HS
  simp only [Prog.lift, Prog.bind_op, Prog.bind_ret, Prog.pure_eq_ret]
  iapply (out_ m ρ K c 14 14 15 rfl rfl rfl rfl) $$ HS; iintro HS
  ihave Hf := (finish m ρ K c) $$ [HS Hrv Hzc Hzb Hp H2 H3]
  · isplitl [HS]; · iexact HS
    isplitl [Hrv]; · iexact Hrv
    isplitl [Hzc]; · iexact Hzc
    isplitl [Hzb]; · iexact Hzb
    isplitl [Hp]; · iexact Hp
    isplitl [H2]; · iexact H2
    iexact H3
  icases Hf with ⟨HΦ, HO⟩
  iapply (ret_ c)
  iapply Hk
  isplitl [HΦ]; · iexact HΦ
  isplitl [HO]; · iexact HO
  isplitl [Hx]; · iexact Hx
  isplitl [Hw]; · iexact Hw
  isplitl [Hi]; · iexact Hi
  isplitl [He]; · iexact He
  unfold outAt
  iexact Ho

/-! ## The library's obligation -/

omit [FloatOps F] in
theorem owns_whole_eq (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ at_ c b f) := by
  unfold owns; simp only [Memref.view_whole, View.read_whole, View.set_whole]

abbrev stg (b : Ref sig .tc) (X : b.ty.Contents (Elt F)) : sProp 𝕄 :=
  iprop(∃ f : Buf (Elt F) ((c : Thread nD τ).loc b), ⌜f = X⌝ ∗ at_ c b f)

def bodyPre : sProp 𝕄 :=
  iprop(Φ₀ m ρ c ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

def bodyPost : sProp 𝕄 :=
  iprop(Φ₁ (F := F) c ∗ (dats m ρ 0 c).owesAt () t0_0.succ
    ∗ stg c cc0_stg0_0 (xs m ρ c) ∗ stg c cc0_stg1_0 (ws m ρ c) ∗ stg c cc0_stg2_0 (is m ρ c) ∗ stg c cc0_stg3_0 (es m ρ c) ∗ stg c cc0_stg4_0 (outAt m ρ c))

theorem before_0 (d) : (dats m ρ 0 c).before (0 : Fin 5) t0_0 d = xs m ρ c := by
  unfold Dat.before; rw [if_pos (fetch0_0 t0_0)]; rfl
theorem before_1 (d) : (dats m ρ 0 c).before (1 : Fin 5) t0_0 d = ws m ρ c := by
  unfold Dat.before; rw [if_pos (fetch0_1 t0_0)]; rfl
theorem before_2 (d) : (dats m ρ 0 c).before (2 : Fin 5) t0_0 d = is m ρ c := by
  unfold Dat.before; rw [if_pos (fetch0_2 t0_0)]; rfl
theorem before_3 (d) : (dats m ρ 0 c).before (3 : Fin 5) t0_0 d = es m ρ c := by
  unfold Dat.before; rw [if_pos (fetch0_3 t0_0)]; rfl

omit [FloatOps F] in
theorem stg_intro (b : Ref sig .tc) (X : b.ty.Contents (Elt F)) : at_ c b X ⊢ stg (F := F) c b X := by
  iintro H
  iexists X
  isplitr; · (ipureintro; rfl)
  iexact H

theorem body_owed :
    bodyPre m ρ c ⊢ WP c (onBufs (cc0_body (F := F))) (fun _ => bodyPost m ρ c) := by
  unfold bodyPre
  iintro ⟨HΦ, HO, ⟨%d0, %f0, %h0, Hx⟩, ⟨%d1, %f1, %h1, Hw⟩, ⟨%d2, %f2, %h2, Hi⟩, ⟨%d3, %f3, %h3, He⟩, ⟨%d4, %f4, -, Ho⟩⟩
  rw [before_0] at h0; rw [before_1] at h1; rw [before_2] at h2; rw [before_3] at h3
  subst h0; subst h1; subst h2; subst h3
  iapply (sound_body m ρ c)
  unfold Dat.owesAt Pipeline.owesWithin
  icases HO with ⟨%W, -, HO⟩
  isplitr []
  · unfold pre
    isplitl [HΦ]; · iexact HΦ
    isplitl [HO]; · unfold owesE; iexists W; iexact HO
    isplitl [Hx]; · iexact Hx
    isplitl [Hw]; · iexact Hw
    isplitl [Hi]; · iexact Hi
    isplitl [He]; · iexact He
    iexists _; iexact Ho
  unfold post bodyPost owesE Dat.owesAt Pipeline.owesWithin
  iintro ⟨HΦ, ⟨%W', HO⟩, Hx, Hw, Hi, He, Ho⟩
  isplitl [HΦ]; · iexact HΦ
  isplitl [HO]
  · iexists W'
    isplitr; · (ipureintro; exact fun _ _ => Or.inl trivial)
    iexact HO
  isplitl [Hx]; · iapply (stg_intro c _ _); iexact Hx
  isplitl [Hw]; · iapply (stg_intro c _ _); iexact Hw
  isplitl [Hi]; · iapply (stg_intro c _ _); iexact Hi
  isplitl [He]; · iapply (stg_intro c _ _); iexact He
  iapply (stg_intro c _ _); iexact Ho

set_option maxRecDepth 20000 in
theorem body_obligation : BodyObligation (dats (F := F) m ρ 0 c) (defs₀ (F := F)) 𝒱₀ () Set.univ := fun t => by
  rw [fin_N0 t]
  rw [bigSep_W0, bigSep_W0]
  simp only [owns_whole_eq]
  show bodyPre m ρ c ⊢ WP c (onBufs (cc0_body (F := F))) (fun _ => bodyPost m ρ c)
  exact body_owed m ρ c

end Cert.MoE

end
-- ==== Proof.Launch.lean ====
/-
  The launch: the ghost state minted and dealt to the devices, the credits each launch hands out, and the run of the whole
  program.
-/
module

public import proofs.«01_k».proof.Proof.Body
public import Idealize.ShloMosaic.Lib.Pipeline.CollectiveSegs

@[expose] public section

noncomputable section

namespace Cert.MoE

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The ghost state -/

theorem osem_eq (k : OK) : osem k = csem (.inl k) := rfl

theorem ownSemFacts : Pipeline.OwnSemFacts cfg0.spec osem := by decide

theorem share_eq (c : Dev nD) (w : Fin cfg0.W) : (dats m ρ 0 c).share w = fullShare := by unfold Dat.share; split <;> rfl

def allCells : Finset (GSem nD τ sig) := Finset.univ.map ⟨kcell, kcell_injective⟩
/-- One contribution to each cell. -/
def tokOf (x : Dev nD × KK) : GSem nD τ sig × ℕ × Unit := (kcell x, 0, ())
theorem tokOf_injective : Function.Injective tokOf := fun _ _ h => kcell_injective (congrArg Prod.fst h)
def allToks : Finset (GSem nD τ sig × ℕ × Unit) := Finset.univ.map ⟨tokOf, tokOf_injective⟩

def u₀ : UU := (initOf (Pipeline.cells cfgs cellOf_inj) (Pipeline.launchToks cfgs cellOf_inj), initOf allCells allToks)

/-- The tokens of a device's own cells. -/
def toks (c : Dev nD) : sProp 𝕄 := bigSep Finset.univ fun k : KK => dutyTok ER (kcell (c, k)) 0 ()

/-- What the launch deals a device, -/
def G (c : Dev nD) : sProp 𝕄 :=
  iprop((bigSep Finset.univ fun k : KK => roundState ER (rd m ρ) (kcell (c, k)) 0)
    ∗ (bigSep Finset.univ fun k : KK => iprop(atPos ER (kcell (c, k)) 0 ∅ 0 ∗ reached ER (kcell (c, k)) 0)) ∗ toks (F := F) c)
/-- and what it starts with once the invariants are allocated. -/
def G' (c : Dev nD) : sProp 𝕄 := iprop(∃ K, records m ρ K ∗ linear (F := F) c)

theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : KK => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro HX
  imod (Rounds.fund ER (rd m ρ) allCells allToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun o : OK => semVal (kcell (c, .inl o)) 0 := rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- All the counters of a device: the kernel's own and the barrier's. -/
theorem sems0_eq (c : Dev nD) : (bigSep Finset.univ fun k : KK => (semVal (kcell (c, k)) 0 : sProp 𝕄))
    = iprop(Pipeline.ownSems0 (Ix := Unit) (Name := ℕ) (U := UU) (Lvl := ℕ) (Val := Elt F) (τ := τ) osem c ∗ unscopedSems0 c) := by
  rw [ownSems0_eq, unscopedSems0_eq, BI.bigSep_univ_sum, show (Finset.univ : Finset Unit) = {()} from rfl, BI.bigSep_singleton]
  rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks (F := F) c) := by
  unfold G
  iintro ⟨Hos, Hus, Hst, Hat, Htok⟩
  ihave Hv := (Entails.of_eq (sems0_eq (F := F) c).symm) $$ [Hos Hus]
  · isplitl [Hos] <;> iassumption
  imod (show iprop((bigSep Finset.univ fun k : KK => semVal (kcell (c, k)) 0) ∗ bigSep Finset.univ fun k : KK => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- A family of tokens over the devices and a kind's copies, dealt along each copy's route. -/
theorem deal (e : Fin 15 → (Dev nD ≃ Dev nD)) (Φ : Dev nD → Fin 15 → sProp 𝕄) :
    (bigSep Finset.univ fun c : Dev nD => bigSep Finset.univ fun k => Φ c k) = bigSep Finset.univ fun c : Dev nD => bigSep Finset.univ fun k => Φ (e k c) k := by
  rw [BI.bigSep_univ_comm, BI.bigSep_univ_comm (fun (c : Dev nD) k => Φ (e k c) k)]
  exact bigSep_congr fun k _ => BI.bigSep_univ_equiv (e k) (fun c => Φ c k)

omit [FloatOps F] in
/-- The tokens of every device's cells are the tokens of what every device contributes. -/
theorem toks_around : (bigSep Finset.univ fun c : Dev nD => (toks (F := F) c : sProp 𝕄)) ⊢ bigSep Finset.univ fun c : Dev nD => bigSep Finset.univ (payTok (F := F) c) := by
  unfold toks
  simp only [by_kind, payTok]
  rw [bigSep_sep', bigSep_sep', bigSep_sep', bigSep_sep', bigSep_sep', bigSep_sep',
    deal (F := F) (fun k => (upE k).symm) (fun c k => dutyTok ER (kcell (c, .inl (.inl k))) 0 ()),
    deal (F := F) upE (fun c k => dutyTok ER (kcell (c, .inl (.inr (.inr k)))) 0 ()),
    BI.bigSep_univ_equiv nxtE (fun c : Dev nD => (dutyTok ER (kcell (c, .inr ())) 0 () : sProp 𝕄))]
  iintro H
  iexact H

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks (F := F) c) : sProp 𝕄)
      ⊢ bigSep Finset.univ (G' m ρ) := by
  rw [bigSep_sep', bigSep_sep', ← bigSep_univ_prod (fun x : Dev nD × KK => iprop(∃ κ : ℕ, cellInv ER (rd m ρ) κ (kcell x))),
    bigSep_congr (s := Finset.univ) (fun (c : Dev nD) _ => bigSep_sep' Finset.univ (fun k : KK => (atPos ER (kcell (c, k)) 0 ∅ 0 : sProp 𝕄)) (fun k => reached ER (kcell (c, k)) 0)),
    bigSep_sep', ← bigSep_univ_prod (fun x : Dev nD × KK => (reached ER (kcell x) 0 : sProp 𝕄))]
  iintro ⟨HI, ⟨Hat, #HR⟩, Htok⟩
  ihave HK := (BI.bigSep_exists_pi Finset.univ (fun (x : Dev nD × KK) (κ : ℕ) => (cellInv ER (rd m ρ) κ (kcell x) : sProp 𝕄))) $$ HI
  icases HK with ⟨%K, #HI⟩
  ihave Htk := (toks_around (F := F)) $$ Htok
  iapply (with_persistent (F := F) (R := records m ρ K) (Φ := fun c : Dev nD => linear (F := F) c) fun c _ => show iprop(records m ρ K ∗ linear (F := F) c) ⊢ G' m ρ c from by
    unfold G'; iintro H; iexists K; iexact H)
  isplitr
  · unfold records; isplitl; · iexact HI
    iexact HR
  · unfold linear
    rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem kcell_iff {a b : Dev nD} {j k : KK} : kcell (a, j) = kcell (b, k) ↔ a = b ∧ j = k :=
  ⟨fun h => by have := kcell_injective h; exact ⟨congrArg Prod.fst this, congrArg Prod.snd this⟩, fun ⟨h1, h2⟩ => by rw [h1, h2]⟩

/-- The device that owes a cell of `c`. -/
def payer (c : Dev nD) : KK → Dev nD
  | .inl (.inl k) => up c k
  | .inl (.inr (.inl _)) => c
  | .inl (.inr (.inr k)) => dn c k
  | .inr _ => prv c

/-- The cells owed at launch: all but the read-outs. -/
def owedK : KK → ℕ
  | .inl (.inl _) => 1
  | .inl (.inr (.inl _)) => 0
  | .inl (.inr (.inr _)) => N
  | .inr _ => 1

theorem tally_at {a b : Dev nD} {j k : KK} {n : ℕ} : (tallyAt (kcell (a, j)) () n : CellTallies nD τ sig Unit) (kcell (b, k)) () = if b = a ∧ k = j then n else 0 := by
  rw [tallyAt_apply]
  by_cases h : b = a ∧ k = j
  · rw [if_pos h, if_pos ⟨kcell_iff.mpr h, rfl⟩]
  · rw [if_neg h, if_neg fun h' => h (kcell_iff.mp h'.1)]

theorem sum_at {S : Finset (Fin 15)} {f : Fin 15 → CellTallies nD τ sig Unit} {g : GSem nD τ sig} : (∑ j ∈ S, f j) g () = ∑ j ∈ S, f j g () := by
  rw [Finset.sum_apply, Finsupp.finset_sum_apply]

theorem sum_none {P : Fin 15 → Prop} [DecidablePred P] (n : ℕ) (h : ∀ j, ¬ P j) : (∑ j, if P j then n else 0) = 0 :=
  Finset.sum_eq_zero fun j _ => if_neg (h j)
theorem sum_only {P : Fin 15 → Prop} [DecidablePred P] (k : Fin 15) (n : ℕ) (h : ∀ j, P j → j = k) : (∑ j, if P j then n else 0) = if P k then n else 0 :=
  Finset.sum_eq_single k (fun j _ hj => if_neg fun h' => hj (h j h')) fun h' => absurd (Finset.mem_univ k) h'

/-- What `d` owes each of `c`'s cells at launch. -/
theorem owed_at (d c : Dev nD) (k : KK) : O₀ d (kcell (c, k)) () = if d = payer c k then owedK k else 0 := by
  have hb : (tallyAt (barCell (nxt d)) () 1 : CellTallies nD τ sig Unit) (kcell (c, k)) () = if c = nxt d ∧ k = .inr () then 1 else 0 := tally_at (j := .inr ())
  have hr : OR d 0 (kcell (c, k)) () = ∑ j : Fin 15, if c = up d j ∧ k = .inl (.inr (.inr j)) then N else 0 := by
    unfold OR; rw [sum_at, fr_zero]; exact Finset.sum_congr rfl fun j _ => tally_at (j := .inl (.inr (.inr j)))
  have hc : (∑ j ∈ fr 0, tallyAt (crCell (dn d j) j) () 1 : CellTallies nD τ sig Unit) (kcell (c, k)) () = ∑ j : Fin 15, if c = dn d j ∧ k = .inl (.inl j) then 1 else 0 := by
    rw [sum_at, fr_zero]; exact Finset.sum_congr rfl fun j _ => tally_at (j := .inl (.inl j))
  unfold O₀ OS
  rw [Pi.add_apply, Finsupp.add_apply, Pi.add_apply, Finsupp.add_apply, hb, hr, hc]
  have hn (o : OK) : (if c = nxt d ∧ (Sum.inl o : KK) = Sum.inr () then 1 else 0) = 0 := if_neg fun h => by simp at h
  rcases k with (k | k | k) | k
  · rw [sum_none N fun j h => by simp at h, sum_only k 1 fun j h => by simpa using h.2.symm, hn _]
    simp only [Nat.zero_add]
    exact if_congr ⟨fun h => by rw [h.1]; exact (up_dn d k).symm, fun h => ⟨by rw [h]; exact (dn_up c k).symm, trivial⟩⟩ rfl rfl
  · rw [sum_none N fun j h => by simp at h, sum_none 1 fun j h => by simp at h, hn _]
    exact (ite_self _).symm
  · rw [sum_only k N fun j h => by simpa using h.2.symm, sum_none 1 fun j h => by simp at h, hn _]
    simp only [Nat.add_zero]
    exact if_congr ⟨fun h => by rw [h.1]; exact (dn_up d k).symm, fun h => ⟨by rw [h]; exact (up_dn c k).symm, trivial⟩⟩ rfl rfl
  · rw [sum_none N fun j h => by simp at h, sum_none 1 fun j h => by simp at h, Nat.add_zero, Nat.zero_add]
    exact if_congr ⟨fun h => by rw [h.1]; exact (prv_nxt d).symm, fun h => ⟨by rw [h]; exact (nxt_prv c).symm, rfl⟩⟩ rfl rfl

theorem launch_at (c : Dev nD) (k : KK) :
    tallyOn (kcell (c, k)) (launchCredit (Pipeline.owing O₀) 0 (kcell (c, k))) = (tallyAt (kcell (c, k)) () (owedK k) : CellTallies nD τ sig Unit) := by
  unfold tallyAt; refine congrArg _ (Finsupp.ext fun u => ?_); cases u
  rw [Pipeline.launchCredit_owing, Finsupp.single_eq_same, Finset.sum_congr rfl fun d _ => owed_at d c k, Finset.sum_ite_eq' Finset.univ (payer c k) fun _ => owedK k,
    if_pos (Finset.mem_univ _)]

omit [FloatOps F] in
theorem creds_intro (c : Dev nD) : (Pipeline.launchCred O₀ c : sProp 𝕄) ⊢ creds (F := F) c := by
  have h : (Pipeline.launchCred O₀ c : sProp 𝕄) ⊢ bigSep Finset.univ fun k : KK => cred (tallyAt (kcell (c, k)) () (owedK k)) := by
    unfold Pipeline.launchCred
    have h1 : (bigSep Finset.univ fun k : KK => (cred (tallyAt (kcell (c, k)) () (owedK k)) : sProp 𝕄))
        = bigSep (Finset.univ.map ⟨csem, csem_injective⟩) fun sm : SemLoc sig => cred (tallyOn ((c : Thread nD τ), sm) (launchCredit (Pipeline.owing O₀) 0 ((c : Thread nD τ), sm))) := by
      rw [bigSep_map]
      exact bigSep_congr fun k _ => congrArg cred (launch_at c k).symm
    rw [h1]
    exact bigSep_subset (Finset.subset_univ _)
  refine h.trans ?_
  unfold creds
  rw [by_kind]
  iintro ⟨⟨Hc, -, Hr⟩, Hb⟩
  isplitl [Hc]; · iexact Hc
  isplitl [Hr]; · iexact Hr
  iexact Hb

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scratch
  rw [sems0_eq]
  iintro ⟨Hr, Ho, Hu⟩
  isplitl [Hu]; · iexact Hu
  isplitl [Ho]; · iexact Ho
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At every float instance, from any memory with zero counters: every weakly fair execution of the sixteen devices ends,
    with each device's arrays at the contents the proof data say and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands' arrays hold what they held; -/
theorem finalA_0 (c : Dev nD) : finalA m ρ c (0 : Fin 5) = m ((c : Thread nD τ).loc main_arg0) := (dats (F := F) m ρ 0 c).arrAt_in (0 : Fin 5) rfl _
theorem finalA_1 (c : Dev nD) : finalA m ρ c (1 : Fin 5) = m ((c : Thread nD τ).loc main_arg1) := (dats (F := F) m ρ 0 c).arrAt_in (1 : Fin 5) rfl _
theorem finalA_2 (c : Dev nD) : finalA m ρ c (2 : Fin 5) = m ((c : Thread nD τ).loc main_arg2) := (dats (F := F) m ρ 0 c).arrAt_in (2 : Fin 5) rfl _
theorem finalA_3 (c : Dev nD) : finalA m ρ c (3 : Fin 5) = m ((c : Thread nD τ).loc main_arg3) := (dats (F := F) m ρ 0 c).arrAt_in (3 : Fin 5) rfl _

/-- so every execution leaves the operands alone and the counters at zero. -/
theorem unchanged {r : PUnit × MemSt nD τ sig (Elt F)} (h : QC m ρ r) (c : Dev nD) :
    r.2.mem ((c : Thread nD τ).loc main_arg0) = m ((c : Thread nD τ).loc main_arg0) ∧ r.2.mem ((c : Thread nD τ).loc main_arg1) = m ((c : Thread nD τ).loc main_arg1)
      ∧ r.2.mem ((c : Thread nD τ).loc main_arg2) = m ((c : Thread nD τ).loc main_arg2) ∧ r.2.mem ((c : Thread nD τ).loc main_arg3) = m ((c : Thread nD τ).loc main_arg3) :=
  ⟨(h c (0 : Fin 5)).trans (finalA_0 m ρ c), (h c (1 : Fin 5)).trans (finalA_1 m ρ c), (h c (2 : Fin 5)).trans (finalA_2 m ρ c), (h c (3 : Fin 5)).trans (finalA_3 m ρ c)⟩

end Cert.MoE

end
-- ==== Proof.Frames.lean ====
/-
  The frames: every execution of the kernel, at either arithmetic, and of the reference ends with the operands unchanged and
  every counter at zero.
-/
module

public import proofs.«01_k».proof.Proof.Launch
public import proofs.«01_k».proof.Proof.Gen.Kernel
public import proofs.«01_k».proof.Proof.Gen.ReferenceIdeal
public import proofs.«01_k».proof.Proof.Gen.ReferenceIdeal.Run

@[expose] public section

noncomputable section

namespace Cert.MoE

open Idealize.ShloMosaic Idealize.ShloMosaic.TcCoe Idealize.SL.Sem

set_option maxRecDepth 100000 in
/-- The two programs have one text: the bodies are equal, -/
theorem body_eq {F : FTy → Type} [FloatOps F] (a0 h0 a1 h1 a2 h2 a3 h3 a4 h4 a5 h5 a6 h6 a7 h7 a8 h8 a9 a10 a11) :
    Cert.Kernel.cc0_body (F := F) a0 h0 a1 h1 a2 h2 a3 h3 a4 h4 a5 h5 a6 h6 a7 h7 a8 h8 a9 a10 a11
      = Cert.KernelIdeal.cc0_body (F := F) a0 h0 a1 h1 a2 h2 a3 h3 a4 h4 a5 h5 a6 h6 a7 h7 a8 h8 a9 a10 a11 := rfl

/-- so are the tables of bodies, -/
theorem defs₀_eq {F : FTy → Type} [FloatOps F] : Cert.Kernel.defs₀ (F := F) = Cert.KernelIdeal.defs₀ (F := F) := by
  unfold Cert.Kernel.defs₀ Cert.KernelIdeal.defs₀
  congr 1
  funext l a
  match l, a with
  | 0, (t, s) => exact body_eq ..

/-- and those with the pipeline's regions. -/
theorem defs_eq {F : FTy → Type} [FloatOps F] : Cert.Kernel.defs (F := F) = Cert.KernelIdeal.defs (F := F) :=
  congrArg (Pipeline.defs Cert.KernelIdeal.pcfgs) defs₀_eq

/-- The kernel's frame, from the one run at the bits. -/
theorem frame_kernel : Cert.quiescent_Kernel := by
  intro m ρ _
  rw [defs_eq]
  exact (θ_run Cert.KernelIdeal.defs _ _).mono (fun _ h => ⟨fun c => unchanged m ρ h.1 c, h.2⟩) (run_main (F := Bits) m ρ)

/-- The same run at the extended reals. -/
theorem frame_ideal : Cert.quiescent_KernelIdeal := fun m ρ _ =>
  (θ_run Cert.KernelIdeal.defs _ _).mono (fun _ h => ⟨fun c => unchanged m ρ h.1 c, h.2⟩) (run_main (F := Ideal) m ρ)

/-- The reference is a host program: it has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.MoE

end
-- ==== Proof.Pre.lean ====
/-
  The precondition read back: every routing number is one of 0 to 31, and the router's operands are real numbers.
-/
module

public import proofs.«01_k».proof.Defs
public import Idealize.ShloMosaic.PureOps.Ideal.Laws
public import Idealize.ShloMosaic.Lib.Pointwise
public import Idealize.ShloMosaic.Lib.Affine
public import Idealize.ShloMosaic.Lib.ReduceAll
public import Idealize.ShloMosaic.Lib.WordArith

@[expose] public section

noncomputable section

namespace Cert.MoE.Pre

open Cert.Pre_routed_KernelIdeal
open Idealize.ShloMosaic

/-- The shape facts of the precondition over the kernel's blocks, -/
theorem facts_kernel : Cert.Pre_routed_KernelIdeal.Facts where
  bcast_S_S512x2 := by decide
  reducesTo_S512x2_S_d0_1 := by decide
  h_S_ := by decide
  bcast_S_S512x256 := by decide
  reducesTo_S512x256_S_d0_1 := by decide
  bcast_S_S256x32 := by decide
  reducesTo_S256x32_S_d0_1 := by decide

/-- and over the reference's arrays. -/
theorem facts_reference : Cert.Pre_routed_ReferenceIdeal.Facts where
  bcast_S_S512x2 := by decide
  reducesTo_S512x2_S_d0_1 := by decide
  h_S_ := by decide
  bcast_S_S512x256 := by decide
  reducesTo_S512x256_S_d0_1 := by decide
  bcast_S_S256x32 := by decide
  reducesTo_S256x32_S_d0_1 := by decide

/-- A number whose absolute value is below infinity is real. -/
theorem real_of_abs_lt (v : EReal) (h : Ideal.cmp .olt (max v (-v)) (Ideal.ofBits .f32 0x7F800000#32) = 1#1) : ∃ r : ℝ, v = r := by
  have htop : Ideal.ofBits .f32 0x7F800000#32 = ⊤ := by simp [Ideal.ofBits, Ideal.ieee]
  rw [htop] at h
  induction v using EReal.rec with
  | bot => simp [Ideal.cmp] at h
  | coe r => exact ⟨r, rfl⟩
  | top => simp [Ideal.cmp] at h

theorem small_of_between (v : BitVec 32) (h : IntOp.andi (IntOp.cmpi .sge v 0#32) (IntOp.cmpi .slt v 32#32) = 1#1) : v.toNat < 32 := by
  rw [IntOp.andi_eq_one, IntOp.cmpi_sge, IntOp.cmpi_slt] at h
  obtain ⟨h1, h2⟩ := h
  have e0 : (0#32).toInt = 0 := by decide
  have e1 : (32#32).toInt = 32 := by decide
  rw [e0] at h1; rw [e1] at h2
  rw [BitVec.toInt_eq_msb_cond] at h1 h2
  have := v.isLt
  split at h1 <;> simp_all <;> omega

variable [Cert.Pre_routed_KernelIdeal.Facts]

theorem decode (x : FVec Ideal S512x256 .f32) (r : FVec Ideal S256x32 .f32) (i : IVec S512x2 32) (w : FVec Ideal S2x256x512 .f32)
    (h : Cert.Pre_routed_KernelIdeal.fn (F := Ideal) x r i w = fun _ => 1#1) :
    (∀ j, (i j).toNat < 32) ∧ (∀ j, ∃ v : ℝ, x j = v) ∧ ∀ j, ∃ v : ℝ, r j = v := by
  haveI : Subsingleton S_.Idx := ⟨fun a b => funext fun k => k.elim0⟩
  have h0 := congrFun h ix0
  dsimp only [Cert.Pre_routed_KernelIdeal.fn] at h0
  obtain ⟨h01, h2⟩ := IntOp.andi_eq_one.1 h0
  obtain ⟨h0, h1⟩ := IntOp.andi_eq_one.1 h01
  have a0 := Host.reduce_andi_all _ _ _ _ _ h0
  have a1 := Host.reduce_andi_all _ _ _ _ _ h1
  have a2 := Host.reduce_andi_all _ _ _ _ _ h2
  exact ⟨fun j => small_of_between _ (a0 j), fun j => real_of_abs_lt _ (a1 j), fun j => real_of_abs_lt _ (a2 j)⟩

end Cert.MoE.Pre

end
-- ==== Proof.Mix.lean ====
/-
  The mathematics of the mixture of two experts, over the extended reals: one token's router probabilities, the gates of its
  two experts, and why the sum over all 32 experts of the masked gates times the experts' outputs is the mixture of the two.
-/
module

public import Idealize.ShloMosaic.PureOps.Ideal
public import Idealize.ShloMosaic.PureOps.Ideal.Laws
public import Mathlib.Tactic.FieldSimp
public import Mathlib.Tactic.Positivity
public import Mathlib.Tactic.NormNum
public import Mathlib.Algebra.BigOperators.Fin

@[expose] public section

noncomputable section

namespace Cert.MoE

open Idealize.ShloMosaic

/-! ## Positive and finite -/

/-- A positive number below infinity. -/
def PosFin (x : EReal) : Prop := 0 < x ∧ x ≠ ⊤

theorem PosFin.real {x : EReal} (h : PosFin x) : ∃ r : ℝ, 0 < r ∧ x = (r : EReal) := by
  obtain ⟨h0, h1⟩ := h
  induction x using EReal.rec with
  | bot => exact absurd h0 (by simp)
  | coe r => exact ⟨r, by exact_mod_cast h0, rfl⟩
  | top => exact absurd rfl h1

theorem posFin_coe {r : ℝ} (h : 0 < r) : PosFin (r : EReal) := ⟨by exact_mod_cast h, EReal.coe_ne_top r⟩

theorem PosFin.add {x y : EReal} (hx : PosFin x) (hy : PosFin y) : PosFin (x + y) := by
  obtain ⟨r, hr, rfl⟩ := hx.real; obtain ⟨s, hs, rfl⟩ := hy.real
  rw [← EReal.coe_add]; exact posFin_coe (by positivity)

theorem PosFin.div {x y : EReal} (hx : PosFin x) (hy : PosFin y) : PosFin (Ideal.div x y) := by
  obtain ⟨r, hr, rfl⟩ := hx.real; obtain ⟨s, hs, rfl⟩ := hy.real
  rw [Ideal.div_coe hs.ne', ← EReal.coe_mul]; exact posFin_coe (by positivity)

theorem posFin_sum {ι : Type} [Fintype ι] [Nonempty ι] (f : ι → EReal) (h : ∀ i, PosFin (f i)) : PosFin (∑ i, f i) :=
  Finset.sum_induction_nonempty f PosFin (fun _ _ => PosFin.add) Finset.univ_nonempty fun i _ => h i

theorem posFin_exp (r : ℝ) : PosFin (Ideal.exp (r : EReal)) := by rw [Ideal.exp_coe]; exact posFin_coe (Real.exp_pos r)

/-! ## The probabilities of one token -/

/-- The greatest of a token's scores, -/
def top (s : Fin 32 → EReal) : EReal := Finset.univ.fold max ⊥ s
/-- the probability of expert `e`. -/
def prob (s : Fin 32 → EReal) (e : Fin 32) : EReal := Ideal.div (Ideal.exp (s e - top s)) (∑ k, Ideal.exp (s k - top s))

/-- The greatest of finitely many real scores is one of them. -/
theorem top_real (s : Fin 32 → EReal) (h : ∀ e, ∃ r : ℝ, s e = r) : ∃ r : ℝ, top s = r := by
  have hs : top s = Finset.univ.sup s := rfl
  obtain ⟨e, -, he⟩ := Finset.exists_mem_eq_sup Finset.univ Finset.univ_nonempty s
  obtain ⟨r, hr⟩ := h e
  exact ⟨r, by rw [hs, he, hr]⟩

theorem prob_posFin (s : Fin 32 → EReal) (h : ∀ e, ∃ r : ℝ, s e = r) (e : Fin 32) : PosFin (prob s e) := by
  obtain ⟨M, hM⟩ := top_real s h
  have hx : ∀ k, PosFin (Ideal.exp (s k - top s)) := fun k => by
    obtain ⟨r, hr⟩ := h k
    rw [hr, hM, ← EReal.coe_sub]; exact posFin_exp _
  exact (hx e).div (posFin_sum _ hx)

/-! ## The gates -/

/-- A token's probability where it names the expert, else zero, -/
def kept (p : Fin 32 → EReal) (a b e : Fin 32) : EReal := if e = a ∨ e = b then p e else 0
/-- divided by the sum of them all. -/
def gate (p : Fin 32 → EReal) (a b e : Fin 32) : EReal := Ideal.div (kept p a b e) (∑ k, kept p a b k)

/-- The mixture of the two experts that the token names. -/
def mix (p : Fin 32 → EReal) (a b : Fin 32) (y : Fin 32 → EReal) : EReal :=
  Ideal.div (p a) (p a + p b) * y a + Ideal.div (p b) (p a + p b) * y b

theorem sum_two {M : Type} [AddCommMonoid M] (f : Fin 32 → M) {a b : Fin 32} (hab : a ≠ b) (h : ∀ e, e ≠ a → e ≠ b → f e = 0) :
    ∑ e, f e = f a + f b := by
  rw [← Finset.sum_subset (Finset.subset_univ {a, b}), Finset.sum_pair hab]
  intro e _ he
  simp only [Finset.mem_insert, Finset.mem_singleton, not_or] at he
  exact h e he.1 he.2

theorem div_zero_left {y : EReal} (hy : PosFin y) : Ideal.div 0 y = 0 := by
  rw [Ideal.div, if_neg hy.1.ne', zero_mul]

/-- The gates of the experts that the token does not name are zero, and so is what those experts add: the sum over all
    experts is the mixture. Where the token names one expert twice its gate is one, the sum of the two halves. -/
theorem sum_gate (p : Fin 32 → EReal) (hp : ∀ e, PosFin (p e)) (a b : Fin 32) (y : Fin 32 → EReal) :
    ∑ e, gate p a b e * y e = mix p a b y := by
  by_cases hab : a = b
  · subst hab
    obtain ⟨r, hr, hpr⟩ := (hp a).real
    have hs : ∑ k, kept p a a k = p a := by
      rw [Finset.sum_eq_single a (fun e _ he => by simp [kept, he]) (by simp)]; simp [kept]
    rw [Finset.sum_eq_single a _ (by simp)]
    · unfold gate mix
      rw [hs]; simp only [kept, true_or, if_true]
      rw [hpr, ← EReal.coe_add, Ideal.div_coe hr.ne', Ideal.div_coe (by positivity), ← EReal.coe_mul, ← EReal.coe_mul]
      have h1 : r * (1 / r) = 1 := by field_simp
      have h2 : r * (1 / (r + r)) = 1 / 2 := by field_simp; norm_num
      rw [h1, h2]
      rw [← EReal.right_distrib_of_nonneg (by norm_num) (by norm_num), ← EReal.coe_add]; norm_num
    · intro e _ he
      have hk : kept p a a e = 0 := by simp [kept, he]
      rw [gate, hk, hs, div_zero_left (hp a), zero_mul]
  · have hs : ∑ k, kept p a b k = p a + p b := by
      rw [sum_two _ hab (fun e h1 h2 => by simp [kept, h1, h2])]; simp [kept]
    rw [sum_two _ hab]
    · unfold gate mix; rw [hs]; simp [kept]
    · intro e h1 h2
      have hk : kept p a b e = 0 := by simp [kept, h1, h2]
      rw [gate, hk, hs, div_zero_left ((hp a).add (hp b)), zero_mul]

/-- The 32 experts, two to a device. -/
theorem sum_devices {M : Type} [AddCommMonoid M] (f : Fin 32 → M) :
    ∑ d : Fin 16, (f ⟨2 * d.val, by omega⟩ + f ⟨2 * d.val + 1, by omega⟩) = ∑ e, f e := by
  rw [← (finProdFinEquiv (m := 16) (n := 2)).sum_comp f, Fintype.sum_prod_type]
  refine Finset.sum_congr rfl fun d _ => ?_
  rw [Fin.sum_univ_two]
  congr 2 <;> apply Fin.ext <;> simp [finProdFinEquiv] ; omega

end Cert.MoE

end
-- ==== Proof.Value.lean ====
/-
  What the kernel's buffers hold, entry by entry: the operands, the gates, a device's partial result, its chunks, and the sum
  over the devices.
-/
module

public import proofs.«01_k».proof.Proof.Common
public import proofs.«01_k».proof.Proof.Mix
public import Idealize.ShloMosaic.Lib.Pointwise
public import Idealize.ShloMosaic.Lib.Pointwise.IndexBridge
public import Idealize.ShloMosaic.Lib.Pipeline.ValueKit
public import Idealize.ShloMosaic.Lib.Affine

@[expose] public section

set_option maxRecDepth 4000

noncomputable section

namespace Cert.MoE

open Cert.KernelIdeal Cert.KernelIdeal.Gen
open Idealize.ShloMosaic Idealize.ShloMosaic.TcCoe
open Idealize.ShloMosaic.Pipeline (Dat Cfg Window BodyObligation cellOf)

/-! ## The mathematics' names for the operands -/

/-- A token's scores. -/
def score (x : FVec Ideal S512x256 .f32) (w : FVec Ideal S256x32 .f32) (t : Fin 512) (e : Fin 32) : EReal :=
  ∑ k : Fin 256, x (ix2 t k) * w (ix2 k e)

/-- The experts a token names. -/
def choice (i : IVec S512x2 32) (t : Fin 512) (k : Fin 2) : Fin 32 := ⟨(i (ix2 t k)).toNat % 32, Nat.mod_lt _ (by decide)⟩

theorem choice_word (i : IVec S512x2 32) (h : ∀ t k, (i (ix2 t k)).toNat < 32) (t : Fin 512) (k : Fin 2) :
    i (ix2 t k) = BitVec.ofNat 32 (choice i t k).val := by
  apply BitVec.eq_of_toNat_eq
  have := h t k
  simp only [choice, BitVec.toNat_ofNat]; omega

theorem word_inj {a b : ℕ} (ha : a < 2 ^ 32) (hb : b < 2 ^ 32) : BitVec.ofNat 32 a = BitVec.ofNat 32 b ↔ a = b := by
  constructor
  · intro h
    have := congrArg BitVec.toNat h
    simpa only [BitVec.toNat_ofNat, Nat.mod_eq_of_lt ha, Nat.mod_eq_of_lt hb] using this
  · rintro rfl; rfl

/-- Keeping an expert's probability by comparing words. -/
theorem select_kept (p : Fin 32 → EReal) (a b e : Fin 32) (z : EReal) (hz : z = 0) :
    Scalar.select (IntOp.ori (IntOp.cmpi .eq (BitVec.ofNat 32 e.val) (BitVec.ofNat 32 a.val))
      (IntOp.cmpi .eq (BitVec.ofNat 32 e.val) (BitVec.ofNat 32 b.val))) (p e) z = kept p a b e := by
  have hc : (IntOp.ori (IntOp.cmpi .eq (BitVec.ofNat 32 e.val) (BitVec.ofNat 32 a.val))
      (IntOp.cmpi .eq (BitVec.ofNat 32 e.val) (BitVec.ofNat 32 b.val)) = 1#1) ↔ (e = a ∨ e = b) := by
    rw [IntOp.ori_eq_one, IntOp.cmpi_eq, IntOp.cmpi_eq, word_inj (by omega) (by omega), word_inj (by omega) (by omega),
      Fin.ext_iff, Fin.ext_iff]
  unfold kept
  show (if _ = 1#1 then _ else _) = _
  rw [hz]; exact if_congr hc rfl rfl

theorem select_one (g : Fin 32 → EReal) (v : BitVec 32) (a : Fin 32) (hv : v = BitVec.ofNat 32 a.val) (z : EReal) (hz : z = 0) :
    ∑ e : Fin 32, Scalar.select (IntOp.cmpi .eq (BitVec.ofNat 32 e.val) v) (g e) z = g a := by
  rw [Finset.sum_eq_single a _ (by simp)]
  · exact if_pos (IntOp.cmpi_eq.2 hv.symm)
  · intro e _ he
    exact (if_neg (fun h => he (Fin.ext ((word_inj (by omega) (by omega)).1 ((IntOp.cmpi_eq.1 h).trans hv))))).trans hz

theorem neg_inf : Ideal.ofBits .f32 4286578688#32 = (⊥ : EReal) := by simp [Ideal.ofBits, Ideal.ieee]

/-! ## The operands -/

variable (m : (ℓ : Loc nD τ sig) → Buf (Elt Ideal) ℓ) (ρ : Dev nD → PrngReg)

abbrev aX (c : Dev nD) : FVec Ideal S512x256 .f32 := m ((c : Thread nD τ).loc main_arg0)
abbrev aR (c : Dev nD) : FVec Ideal S256x32 .f32 := m ((c : Thread nD τ).loc main_arg1)
abbrev aI (c : Dev nD) : IVec S512x2 32 := m ((c : Thread nD τ).loc main_arg2)
abbrev aE (c : Dev nD) : FVec Ideal S2x256x512 .f32 := m ((c : Thread nD τ).loc main_arg3)

theorem xs_eq (c : Dev nD) : xs m ρ c = aX m c := by
  funext j; unfold xs s₀; blk_simp; show m _ _ = m _ _; congr 1; blk_ext <;> (show 0 * _ + _ = _) <;> omega
theorem ws_eq (c : Dev nD) : ws m ρ c = aR m c := by
  funext j; unfold ws s₀; blk_simp; show m _ _ = m _ _; congr 1; blk_ext <;> (show 0 * _ + _ = _) <;> omega
theorem is_eq (c : Dev nD) : is m ρ c = aI m c := by
  funext j; unfold is s₀; blk_simp; show m _ _ = m _ _; congr 1; blk_ext <;> (show 0 * _ + _ = _) <;> omega
theorem es_eq (c : Dev nD) : es m ρ c = aE m c := by
  funext j; unfold es s₀; blk_simp; show m _ _ = m _ _; congr 1; blk_ext <;> (show 0 * _ + _ = _) <;> omega

/-- The row of the operands that row `y` of the rotated ones is. -/
def rowOf (c : Dev nD) (y : ℕ) : Fin 512 := ⟨(y + 32 * ((c.val + 1) % 16)) % 512, Nat.mod_lt _ (by decide)⟩

theorem rot_at {α : Type} {w : ℕ} (c : Dev nD) (v : (⟨2, ![512, w]⟩ : Shape).Idx → α) (y : Fin 512) (k : Fin w) :
    rot c v (ix2 y k) = v (ix2 (rowOf c y.val) k) := by
  show v (ValueIdx.ix2 (rowOf c y.val) k) = _
  rw [ix2_eq_valueIdx]

theorem xr_at (c : Dev nD) (y : Fin 512) (k : Fin 256) : xr m ρ c (ix2 y k) = aX m c (ix2 (rowOf c y.val) k) := by
  unfold xr; rw [rot_at, xs_eq]
theorem ir_at (c : Dev nD) (y : Fin 512) (k : Fin 2) : ir m ρ c (ix2 y k) = aI m c (ix2 (rowOf c y.val) k) := by
  unfold ir; rw [rot_at, is_eq]

theorem ew0_at (c : Dev nD) (k : Fin 256) (f : Fin 512) : ew0 m ρ c (ix3 0 k f) = aE m c (ix3 0 k f) := by
  rw [← es_eq m ρ]; unfold ew0; rw [View.readAt_eq_ld]; pointwise; rfl
theorem ew1_at (c : Dev nD) (k : Fin 256) (f : Fin 512) : ew1 m ρ c (ix3 0 k f) = aE m c (ix3 1 k f) := by
  rw [← es_eq m ρ]; unfold ew1; rw [View.readAt_eq_ld]; pointwise; rfl

theorem word_eq (c : Dev nD) : word c = BitVec.ofNat 32 c.val := by revert c; decide

/-! ## The gates -/

theorem gates_at (c : Dev nD) (h : ∀ t k, (aI m c (ix2 t k)).toNat < 32) (y : Fin 512) (e : Fin 32) :
    gates m ρ c (ix2 y e) = gate (prob (score (aX m c) (aR m c) (rowOf c y.val))) (choice (aI m c) (rowOf c y.val) 0)
      (choice (aI m c) (rowOf c y.val) 1) e := by
  unfold gates
  pointwise [k0_pay5]
  simp only [xr_at, ir_at, ws_eq, neg_inf, choice_word _ h]
  exact congrArg₂ Ideal.div (select_kept (prob _) _ _ e _ rfl) (Finset.sum_congr rfl fun k _ => select_kept (prob _) _ _ k _ rfl)

/-- A token's gate for an expert. -/
def gateOf (x : FVec Ideal S512x256 .f32) (w : FVec Ideal S256x32 .f32) (i : IVec S512x2 32) (t : Fin 512) (e : Fin 32) : EReal :=
  gate (prob (score x w t)) (choice i t 0) (choice i t 1) e

/-- What device `c` computes of token `t`. -/
def part (c : Dev nD) (t : Fin 512) (f : Fin 512) : EReal :=
  gateOf (aX m c) (aR m c) (aI m c) t ⟨2 * c.val, by have : c.val < 16 := c.isLt; omega⟩
      * ∑ k : Fin 256, aX m c (ix2 t k) * aE m c (ix3 0 k f)
    + gateOf (aX m c) (aR m c) (aI m c) t ⟨2 * c.val + 1, by have : c.val < 16 := c.isLt; omega⟩
      * ∑ k : Fin 256, aX m c (ix2 t k) * aE m c (ix3 1 k f)

/-! ## The senders -/

/-- Counting the senders of a device down from its left neighbour meets every device, itself last. -/
def senders (c : Dev nD) : Fin 16 ≃ Fin 16 where
  toFun k := ⟨(c.val + (15 - k.val)) % 16, Nat.mod_lt _ (by decide)⟩
  invFun k := ⟨(c.val + (15 - k.val)) % 16, Nat.mod_lt _ (by decide)⟩
  left_inv k := by
    have hc : c.val < 16 := c.isLt
    apply Fin.ext; show (c.val + (15 - (c.val + (15 - k.val)) % 16)) % 16 = k.val; omega
  right_inv k := by
    have hc : c.val < 16 := c.isLt
    apply Fin.ext; show (c.val + (15 - (c.val + (15 - k.val)) % 16)) % 16 = k.val; omega

theorem sum_fifteen (g : Fin 15 → EReal) : ∑ k, g k
    = 0 + g 0 + g 1 + g 2 + g 3 + g 4 + g 5 + g 6 + g 7 + g 8 + g 9 + g 10 + g 11 + g 12 + g 13 + g 14 := by
  simp only [Fin.sum_univ_castSucc, Fin.sum_univ_zero]; rfl

/-- The operands of a device's sum, one of every device. -/
theorem sum_senders (c : Dev nD) (g : Fin 16 → EReal) :
    g c + g (dn c 0) + g (dn c 1) + g (dn c 2) + g (dn c 3) + g (dn c 4) + g (dn c 5) + g (dn c 6) + g (dn c 7) + g (dn c 8)
      + g (dn c 9) + g (dn c 10) + g (dn c 11) + g (dn c 12) + g (dn c 13) + g (dn c 14) = ∑ d : Fin 16, g d := by
  rw [← (senders c).sum_comp g, Fin.sum_univ_castSucc]
  have hl : senders c (Fin.last 15) = c := by
    have hc : c.val < 16 := c.isLt
    apply Fin.ext; show (c.val + 0) % 16 = c.val; omega
  rw [hl, show ∑ k : Fin 15, g (senders c k.castSucc) = ∑ k : Fin 15, g (dn c k) from rfl, sum_fifteen fun k => g (dn c k), add_comm _ (g c)]
  simp only [zero_add, add_assoc]

/-! ## The partial results -/

variable (h : ∀ c t k, (aI m c (ix2 t k)).toNat < 32)
include h

theorem gate0_at (c : Dev nD) (y : Fin 512) :
    k0_pay6 (word c) cols (gates m ρ c) (ix2 y 0)
      = gateOf (aX m c) (aR m c) (aI m c) (rowOf c y.val) ⟨2 * c.val, by have : c.val < 16 := c.isLt; omega⟩ := by
  pointwise [k0_pay6, cols]
  refine (select_one (fun e => gates m ρ c (ix2 y e)) _ ⟨2 * c.val, by have : c.val < 16 := c.isLt; omega⟩ ?_ _ rfl).trans (gates_at m ρ c (h c) y _)
  rw [word_eq]; revert c; decide

theorem gate1_at (c : Dev nD) (y : Fin 512) :
    k0_pay7 (word c) cols (gates m ρ c) (ix2 y 0)
      = gateOf (aX m c) (aR m c) (aI m c) (rowOf c y.val) ⟨2 * c.val + 1, by have : c.val < 16 := c.isLt; omega⟩ := by
  pointwise [k0_pay7, cols]
  refine (select_one (fun e => gates m ρ c (ix2 y e)) _ ⟨2 * c.val + 1, by have : c.val < 16 := c.isLt; omega⟩ ?_ _ rfl).trans (gates_at m ρ c (h c) y _)
  rw [word_eq]; revert c; decide

theorem pT_at (c : Dev nD) (y : Fin 256) (f : Fin 512) : pT m ρ c (ix2 y f) = part m c (rowOf c y.val) f := by
  unfold pT
  pointwise [k0_pay11, k0_pay10, k0_pay8, k0_pay9]
  simp only [gate0_at m ρ h, gate1_at m ρ h, xr_at, ew0_at, ew1_at]
  rfl

theorem pB_at (c : Dev nD) (y : Fin 256) (f : Fin 512) : pB m ρ c (ix2 y f) = part m c (rowOf c (256 + y.val)) f := by
  unfold pB
  pointwise [k0_pay12, k0_pay10, k0_pay8, k0_pay9]
  simp only [gate0_at m ρ h, gate1_at m ρ h, xr_at, ew0_at, ew1_at]
  rfl

theorem pfin_at (c : Dev nD) (y : Fin 512) (f : Fin 512) : pfin m ρ c (ix2 y f) = part m c (rowOf c y.val) f := by
  by_cases hy : y.val < 256
  · refine (dif_pos hy).trans ?_
    show pT m ρ c (ValueIdx.ix2 (⟨y.val, hy⟩ : Fin 256) f) = _
    rw [← ix2_eq_valueIdx, pT_at m ρ h]
  · refine (dif_neg hy).trans ?_
    show pB m ρ c (ValueIdx.ix2 (⟨y.val - 256, by omega⟩ : Fin 256) f) = _
    rw [← ix2_eq_valueIdx, pB_at m ρ h]
    congr 2; show 256 + (y.val - 256) = y.val; omega

/-! ## The chunks and their sum -/

theorem chunk_at (c : Dev nD) (j : Fin 16) (r : Fin 32) (f : Fin 512) :
    chunkVal m ρ c j (ix2 r f) = part m c (rowOf c (32 * j.val + r.val)) f := by
  rw [← pfin_at m ρ h c ⟨32 * j.val + r.val, by omega⟩ f]
  show pfin m ρ c ((pChunk j).view.emb (ix2 r f)) = _
  congr 1; funext a
  match a with
  | ⟨0, _⟩ => exact Fin.ext (show 32 * j.val + 1 * r.val = 32 * j.val + r.val by omega)
  | ⟨1, _⟩ => exact Fin.ext (show 0 + 1 * f.val = f.val by omega)

/-- The token that row `r` of the result on device `c` is. -/
def outRow (c : Dev nD) (r : Fin 32) : Fin 512 := ⟨32 * c.val + r.val, by have : c.val < 16 := c.isLt; omega⟩

theorem slot_at (c : Dev nD) (k : Fin 15) (r : Fin 32) (f : Fin 512) :
    slotVal m ρ c k (ix3 0 r f) = part m (dn c k) (outRow c r) f := by
  have e : rowOf (dn c k) (32 * (ck k).val + r.val) = outRow c r := by
    have hc : c.val < 16 := c.isLt
    apply Fin.ext; simp only [rowOf, dn, ck, outRow, Fin.val_castSucc]; omega
  rw [← e, ← chunk_at m ρ h]
  unfold slotVal; congr 1
  rw [ix2_eq_valueIdx, ix3_eq_valueIdx, Equiv.symm_apply_eq]
  exact (ValueIdx.reshapeEquiv_ix2_1ab _ r f).symm

theorem own_at (c : Dev nD) (r : Fin 32) (f : Fin 512) : chunkVal m ρ c 15 (ix2 r f) = part m c (outRow c r) f := by
  rw [chunk_at m ρ h]; congr 1
  have hc : c.val < 16 := c.isLt
  apply Fin.ext; simp only [rowOf, outRow]; show (32 * 15 + r.val + _) % 512 = _; omega

theorem outAt_at (c : Dev nD) (r : Fin 32) (f : Fin 512) :
    outAt m ρ c (ix2 r f) = ∑ d : Fin 16, part m d (outRow c r) f := by
  rw [← sum_senders c fun d => part m d (outRow c r) f]
  simp only [← slot_at m ρ h, ← own_at m ρ h]
  unfold outAt
  pointwise [k0_pay13, k0_pay14, k0_pay15, k0_pay16, k0_pay17, k0_pay18, k0_pay19]

end Cert.MoE

end
-- ==== Proof.Ref.lean ====
/-
  The reference's result, entry by entry: the mixture of the two experts that the token names.
-/
module

public import proofs.«01_k».proof.Defs
public import proofs.«01_k».proof.Proof.Gen.ReferenceIdeal
public import proofs.«01_k».proof.Proof.Gen.ReferenceIdeal.Run
public import proofs.«01_k».proof.Proof.Mix
public import proofs.«01_k».proof.Proof.Value
public import Idealize.ShloMosaic.Lib.Pointwise
public import Idealize.ShloMosaic.Lib.StableHlo.Predicate
public import Idealize.ShloMosaic.Lib.Routing.OpsPair

@[expose] public section

set_option maxRecDepth 4000

noncomputable section

namespace Cert.MoE.Ref

open Cert.ReferenceIdeal Cert.ReferenceIdeal.Gen Cert.ReferenceIdeal.Value
open Idealize.ShloMosaic Idealize.ShloMosaic.TcCoe

/-! ## The stages -/

def scores (x : FVec Ideal S512x256 .f32) (r : FVec Ideal S256x32 .f32) : FVec Ideal S512x32 .f32 :=
  Host.dotGeneral dot_S512x256_S256x32_S512x32_1_0_0_1_n_n none x r

def expd (s : FVec Ideal S512x32 .f32) : FVec Ideal S512x32 .f32 :=
  Host.exp (subf s (broadcastInDim S512x32 ![0, 1] bcast_S512x1_S512x32_0_1 (broadcastInDim S512x1 ![0] bcast_S512_S512x1_0
    (Host.reduce FloatOps.maximumf s (constant S_ .f32 0xFF800000#32) reducesTo_S512x32_S512_d1 h_S_))))

def probs (e : FVec Ideal S512x32 .f32) : FVec Ideal S512x32 .f32 :=
  Host.divf e (broadcastInDim S512x32 ![0, 1] bcast_S512x1_S512x32_0_1 (broadcastInDim S512x1 ![0] bcast_S512_S512x1_0
    (Host.reduceAdd e (constant S_ .f32 0x00000000#32) reducesTo_S512x32_S512_d1 h_S_)))

def named0 (i : IVec S512x2 32) : IVec S512 32 :=
  shapeCast _ (extractStridedSlice S512x1 ![0, 0] i slices_S512x2_S512x1_0_0) shapeCasts_S512x1_S512
def named1 (i : IVec S512x2 32) : IVec S512 32 :=
  shapeCast _ (extractStridedSlice S512x1 ![0, 1] i slices_S512x2_S512x1_0_1) shapeCasts_S512x1_S512

/-- A negative number counted from the end. -/
def wrap (n : BitVec 32) (e : IVec S512 32) : IVec S512 32 :=
  select (cmpi .slt e (broadcastInDim S512 ![] bcast_S_S512 (constantI S_ 32 0#32)))
    (addi e (broadcastInDim S512 ![] bcast_S_S512 (constantI S_ 32 n))) e

def pairs (e : IVec S512 32) : IVec S512x2 32 :=
  concatenate S512x2 1 [⟨S512x1, broadcastInDim S512x1 ![0] bcast_S512_S512x1_0 (wrap 512#32 (iotaInDim S512 32 0))⟩,
    ⟨S512x1, broadcastInDim S512x1 ![0] bcast_S512_S512x1_0 (wrap 32#32 e)⟩] concatenates_S512x1_S512x1_S512x2_d1

def pick (p : FVec Ideal S512x32 .f32) (e : IVec S512 32) : FVec Ideal S512 .f32 :=
  Host.gather gather_S512x32_S512x2_S512_n_01_n_n_01_1_11 p (pairs e)

def applied (x : FVec Ideal S512x256 .f32) (w : FVec Ideal S32x256x512 .f32) (e : IVec S512 32) : FVec Ideal S512x512 .f32 :=
  Host.dotGeneral dot_S512x256_S512x256x512_S512x512_1_1_n_2_0_0 none x
    (Host.gather gather_S32x256x512_S512x1_S512x256x512_12_0_n_n_0_1_1256512 w (broadcastInDim S512x1 ![0] bcast_S512_S512x1_0 (wrap 32#32 e)))

def weigh (g h : FVec Ideal S512 .f32) (y : FVec Ideal S512x512 .f32) : FVec Ideal S512x512 .f32 :=
  mulf (broadcastInDim S512x512 ![0, 1] bcast_S512x1_S512x512_0_1 (broadcastInDim S512x1 ![0] bcast_S512_S512x1_0 (Host.divf g h))) y

def mixed (x : FVec Ideal S512x256 .f32) (r : FVec Ideal S256x32 .f32) (i : IVec S512x2 32) (w : FVec Ideal S32x256x512 .f32) :
    FVec Ideal S512x512 .f32 :=
  let p := probs (expd (scores x r))
  let g := pick p (named0 i)
  let h := pick p (named1 i)
  addf (weigh g (addf g h) (applied x w (named0 i))) (weigh h (addf g h) (applied x w (named1 i)))

theorem res_eq (m : (ℓ : Loc nD τ sig) → Buf (Elt Ideal) ℓ) (c : Dev nD) :
    res_out0 m c = mixed (m ((c : Thread nD τ).loc main_arg0)) (m ((c : Thread nD τ).loc main_arg1)) (m ((c : Thread nD τ).loc main_arg2))
      (m ((c : Thread nD τ).loc main_arg3)) := by
  unfold res_out0 res_main_v68; rfl

/-! ## The stages at an index -/

variable (x : FVec Ideal S512x256 .f32) (r : FVec Ideal S256x32 .f32) (i : IVec S512x2 32) (w : FVec Ideal S32x256x512 .f32)

theorem scores_at (t : Fin 512) (e : Fin 32) : scores x r (ix2 t e) = score x r t e := by
  unfold scores; pointwise; rfl

theorem expd_at (s : FVec Ideal S512x32 .f32) (t : Fin 512) (e : Fin 32) :
    expd s (ix2 t e) = Ideal.exp (s (ix2 t e) - top fun k => s (ix2 t k)) := by
  unfold expd; pointwise; rw [neg_inf]; rfl

theorem probs_at (s : FVec Ideal S512x32 .f32) (t : Fin 512) (e : Fin 32) :
    probs s (ix2 t e) = Ideal.div (s (ix2 t e)) (∑ k, s (ix2 t k)) := by
  unfold probs; pointwise

theorem named0_at (t : Fin 512) : named0 i (ix1 t) = i (ix2 t 0) := by
  unfold named0; pointwise
theorem named1_at (t : Fin 512) : named1 i (ix1 t) = i (ix2 t 1) := by
  unfold named1; pointwise

theorem wrap_at (n : BitVec 32) (e : IVec S512 32) (t : Fin 512) (h : (e (ix1 t)).toNat < 2 ^ 31) : wrap n e (ix1 t) = e (ix1 t) := by
  unfold wrap; pointwise; exact Routing.wrap_of_lt _ _ h

theorem pairs_at0 (e : IVec S512 32) (t : Fin 512) : pairs e (ix2 t 0) = BitVec.ofNat 32 t.val := by
  have : wrap 512#32 (iotaInDim S512 32 0) (ix1 t) = BitVec.ofNat 32 t.val := by
    rw [wrap_at]
    · rfl
    · show (BitVec.ofNat 32 t.val).toNat < 2 ^ 31
      rw [BitVec.toNat_ofNat]; omega
  unfold pairs; pointwise
  exact this
theorem pairs_at1 (e : IVec S512 32) (t : Fin 512) : pairs e (ix2 t 1) = wrap 32#32 e (ix1 t) := by
  unfold pairs; pointwise

/-! ## The two gathers -/

theorem start_word (b N : ℕ) (hb : b ≤ N) (hN : N < 2 ^ 31) : min (BitVec.ofNat 32 b).toInt.toNat N = b := by
  rw [StableHlo.Predicate.toInt_ofNat_small _ (by omega)]; omega

/-- The entry of the table that the pair of numbers names. -/
theorem gather_pair (p : FVec Ideal S512x32 .f32) (q : IVec S512x2 32) (t : Fin 512) (a : Fin 512) (b : Fin 32)
    (ha : q (ix2 t 0) = BitVec.ofNat 32 a.val) (hb : q (ix2 t 1) = BitVec.ofNat 32 b.val) :
    Host.gather gather_S512x32_S512x2_S512_n_01_n_n_01_1_11 p q (ix1 t) = p (ix2 a b) := by
  unfold Host.gather
  refine congrArg p (funext fun k => Fin.ext ?_)
  match k with
  | ⟨0, _⟩ =>
    refine Eq.trans ?_ (start_word a.val 511 (by omega) (by omega))
    rw [← ha]
    show min (q (GatherDims.siIdx _ (ix1 t) _)).toInt.toNat 511 = _
    congr 4
    funext z; match z with
    | ⟨0, _⟩ => rfl
    | ⟨1, _⟩ => rfl
  | ⟨1, _⟩ =>
    refine Eq.trans ?_ (start_word b.val 31 (by omega) (by omega))
    rw [← hb]
    show min (q (GatherDims.siIdx _ (ix1 t) _)).toInt.toNat 31 = _
    congr 4
    funext z; match z with
    | ⟨0, _⟩ => rfl
    | ⟨1, _⟩ => rfl

/-- The matrix that the number names. -/
theorem gather_matrix (w : FVec Ideal S32x256x512 .f32) (q : IVec S512x1 32) (t : Fin 512) (k : Fin 256) (f : Fin 512) (b : Fin 32)
    (hb : q (ix2 t 0) = BitVec.ofNat 32 b.val) :
    Host.gather gather_S32x256x512_S512x1_S512x256x512_12_0_n_n_0_1_1256512 w q (ix3 t k f) = w (ix3 b k f) := by
  unfold Host.gather
  refine congrArg w (funext fun k => Fin.ext ?_)
  match k with
  | ⟨0, _⟩ =>
    refine Eq.trans ?_ (start_word b.val 31 (by omega) (by omega))
    rw [← hb]
    show min (q (GatherDims.siIdx _ (ix3 t _ _) _)).toInt.toNat 31 = _
    congr 4
    funext z; match z with
    | ⟨0, _⟩ => rfl
    | ⟨1, _⟩ => rfl
  | ⟨1, _⟩ => show 0 + 0 + _ = _; rw [Nat.zero_add]; rfl
  | ⟨2, _⟩ => show 0 + 0 + _ = _; rw [Nat.zero_add]; rfl

theorem pick_at (p : FVec Ideal S512x32 .f32) (e : IVec S512 32) (t : Fin 512) (b : Fin 32) (h : e (ix1 t) = BitVec.ofNat 32 b.val) :
    pick p e (ix1 t) = p (ix2 t b) := by
  refine gather_pair p _ t t b (pairs_at0 e t) ((pairs_at1 e t).trans ((wrap_at _ e t ?_).trans h))
  rw [h, BitVec.toNat_ofNat]; omega

theorem applied_at (e : IVec S512 32) (t : Fin 512) (f : Fin 512) (b : Fin 32) (h : e (ix1 t) = BitVec.ofNat 32 b.val) :
    applied x w e (ix2 t f) = ∑ k : Fin 256, x (ix2 t k) * w (ix3 b k f) := by
  have hq : broadcastInDim S512x1 ![0] bcast_S512_S512x1_0 (wrap 32#32 e) (ix2 t 0) = BitVec.ofNat 32 b.val := by
    pointwise
    exact (wrap_at _ e t (by rw [h, BitVec.toNat_ofNat]; omega)).trans h
  simp only [← gather_matrix w _ t _ f b hq]
  unfold applied; pointwise

theorem weigh_at (g h : FVec Ideal S512 .f32) (y : FVec Ideal S512x512 .f32) (t f : Fin 512) :
    weigh g h y (ix2 t f) = Ideal.div (g (ix1 t)) (h (ix1 t)) * y (ix2 t f) := by
  unfold weigh; pointwise

/-- The reference's result: the mixture of the two experts. -/
theorem mixed_at (h : ∀ t k, (i (ix2 t k)).toNat < 32) (t f : Fin 512) :
    mixed x r i w (ix2 t f)
      = mix (prob (score x r t)) (choice i t 0) (choice i t 1) (fun e => ∑ k : Fin 256, x (ix2 t k) * w (ix3 e k f)) := by
  have h0 : named0 i (ix1 t) = BitVec.ofNat 32 (choice i t 0).val := (named0_at i t).trans (choice_word i h t 0)
  have h1 : named1 i (ix1 t) = BitVec.ofNat 32 (choice i t 1).val := (named1_at i t).trans (choice_word i h t 1)
  have hp : ∀ e, probs (expd (scores x r)) (ix2 t e) = prob (score x r t) e := fun e => by
    simp only [probs_at, expd_at, scores_at]; rfl
  show weigh _ _ _ (ix2 t f) + weigh _ _ _ (ix2 t f) = _
  rw [weigh_at, weigh_at]
  show Ideal.div _ (pick _ _ (ix1 t) + pick _ _ (ix1 t)) * _ + Ideal.div _ (pick _ _ (ix1 t) + pick _ _ (ix1 t)) * _ = _
  rw [pick_at _ _ t _ h0, pick_at _ _ t _ h1, applied_at x w _ t f _ h0, applied_at x w _ t f _ h1, hp, hp]
  rfl

end Cert.MoE.Ref

end
-- ==== Proof.Algebra.lean ====
/-
  The kernel's result is the reference's: on device `c`, rows `32 c` to `32 c + 31` of the mixture.
-/
module

public import proofs.«01_k».proof.Proof.Frames
public import proofs.«01_k».proof.Proof.Value
public import proofs.«01_k».proof.Proof.Ref
public import proofs.«01_k».proof.Proof.Pre
public import Idealize.ShloMosaic.Lib.Pipeline.ValueKit

@[expose] public section

set_option maxRecDepth 4000

noncomputable section

namespace Cert.MoE

open Idealize.ShloMosaic Idealize.ShloMosaic.TcCoe Idealize.SL.Sem

/-! ## The array the kernel leaves -/

section
open Cert.KernelIdeal Cert.KernelIdeal.Gen

theorem whole4 : win0_4.WholeAt (G := grid0) (0 : Fin 1) :=
  ⟨by decide +kernel, fun t _ => Fin.ext (by have : t.val < 1 := t.isLt; show t.val = 0; omega), by decide +kernel⟩

/-- The result on device `c` is the sum of its chunks. -/
theorem final4 {F : FTy → Type} [FloatOps F] (m : (ℓ : Loc nD τ sig) → Buf (Elt F) ℓ) (ρ : Dev nD → PrngReg) (c : Dev nD) :
    finalA m ρ c 4 = outAt m ρ c := by
  unfold finalA
  refine (dats m ρ 0 c).arrAt_eq_of_after_last (4 : Fin 5) (0 : Fin 1) whole4 _ fun j => ?_
  blk_simp
  rfl

end

/-! ## The two results -/

theorem real_sum {ι : Type} (s : Finset ι) (f : ι → EReal) (h : ∀ k ∈ s, ∃ v : ℝ, f k = v) : ∃ v : ℝ, ∑ k ∈ s, f k = v :=
  Finset.sum_induction f (fun v => ∃ u : ℝ, v = u) (fun _ _ ⟨a, ha⟩ ⟨b, hb⟩ => ⟨a + b, by rw [ha, hb, EReal.coe_add]⟩) ⟨0, rfl⟩ h

section
open Cert.KernelIdeal

/-- The sixteen parts of a token's row add up to the mixture. -/
theorem sum_parts (m : (ℓ : Loc nD τ sig) → Buf (Elt Ideal) ℓ) (x : FVec Ideal S512x256 .f32) (r : FVec Ideal S256x32 .f32) (i : IVec S512x2 32)
    (w : FVec Ideal (⟨3, ![32, 256, 512]⟩ : Shape) .f32)
    (hx : ∀ c, aX m c = x) (hr : ∀ c, aR m c = r) (hi : ∀ c, aI m c = i)
    (hw : ∀ c, aE m c = Layout.block ⟨3, ![2, 256, 512]⟩ ⟨3, ![32, 256, 512]⟩ 0 16 c w)
    (fx : ∀ j, ∃ v : ℝ, x j = v) (fr : ∀ j, ∃ v : ℝ, r j = v) (t f : Fin 512) :
    ∑ d : Fin 16, part m d t f
      = mix (prob (score x r t)) (choice i t 0) (choice i t 1) (fun e => ∑ k : Fin 256, x (ix2 t k) * w (ix3 e k f)) := by
  have hs : ∀ e, ∃ v : ℝ, score x r t e = v := fun e => real_sum _ _ fun k _ => by
    obtain ⟨a, ha⟩ := fx (ix2 t k); obtain ⟨b, hb⟩ := fr (ix2 k e)
    exact ⟨a * b, by rw [ha, hb, EReal.coe_mul]⟩
  rw [← sum_gate _ (prob_posFin _ hs), ← sum_devices]
  refine Finset.sum_congr rfl fun d _ => ?_
  have e0 : ∀ k : Fin 256, aE m d (ix3 0 k f) = w (ix3 ⟨2 * d.val, by omega⟩ k f) := fun k => by
    rw [hw d]; refine congrArg w (funext fun a => Fin.ext ?_)
    match a with
    | ⟨0, _⟩ => show d.val * 2 + 0 = 2 * d.val; omega
    | ⟨1, _⟩ => rfl
    | ⟨2, _⟩ => rfl
  have e1 : ∀ k : Fin 256, aE m d (ix3 1 k f) = w (ix3 ⟨2 * d.val + 1, by omega⟩ k f) := fun k => by
    rw [hw d]; refine congrArg w (funext fun a => Fin.ext ?_)
    match a with
    | ⟨0, _⟩ => show d.val * 2 + 1 = 2 * d.val + 1; omega
    | ⟨1, _⟩ => rfl
    | ⟨2, _⟩ => rfl
  unfold part gateOf
  simp only [e0, e1, hx, hr, hi]

end

/-- The claim of the values. -/
theorem algebraic [hPre : Cert.Pre_routed_KernelIdeal.Facts] : Cert.algebraic_KernelIdeal_ReferenceIdeal_pre_routed_KernelIdeal := by
  intro m ρ m' ρ' hpre hagree
  have hd := fun c => Pre.decode _ _ _ _ (hpre c)
  have hsmall : ∀ c t k, (aI m c (ix2 t k)).toNat < 32 := fun c t k => (hd c).1 _
  refine ⟨Cert.ReferenceIdeal.Value.res_out0 m' 0, ?_, ?_⟩
  · refine (θ_run Cert.KernelIdeal.defs _ _).mono (fun r h c => ⟨?_, unchanged m ρ h.1 c⟩) (run_main (F := Ideal) m ρ)
    refine (h.1 c (4 : Fin 5)).trans ((final4 m ρ c).trans ?_)
    rw [Ref.res_eq]
    funext j
    obtain ⟨a, f, rfl⟩ : ∃ (a : Fin 32) (f : Fin 512), j = ix2 a f := ⟨j 0, j 1, by funext k; match k with | ⟨0, _⟩ => rfl | ⟨1, _⟩ => rfl⟩
    refine (outAt_at m ρ hsmall c a f).trans ?_
    refine (sum_parts m _ _ _ _ (fun c => (hagree c).1) (fun c => (hagree c).2.1) (fun c => (hagree c).2.2.1) (fun c => (hagree c).2.2.2)
      ?_ ?_ (outRow c a) f).trans ?_
    · rw [← (hagree c).1]; exact (hd c).2.1
    · rw [← (hagree c).2.1]; exact (hd c).2.2
    · refine (Ref.mixed_at _ _ _ _ ?_ (outRow c a) f).symm.trans ?_
      · rw [← (hagree c).2.2.1]; exact hsmall c
      · refine congrArg (Ref.mixed _ _ _ _) (funext fun k => Fin.ext ?_)
        match k with
        | ⟨0, _⟩ => show 32 * c.val + a.val = c.val * 32 + a.val; omega
        | ⟨1, _⟩ => rfl
  · exact (θ_run Cert.ReferenceIdeal.defs _ _).mono (fun r h => h 0) (Cert.ReferenceIdeal.Value.run (F := Ideal) m' ρ')

end Cert.MoE

end
-- ==== Proof.lean ====
/- The proof of the certificate's claims: the frames from Proof/Frames.lean, the values from Proof/Algebra.lean. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Pre
public import proofs.«01_k».proof.Proof.Algebra

@[expose] public section

noncomputable section

namespace Cert.Proof

theorem claim : Cert.Claim :=
  ⟨Cert.Kernel.Gen.facts, Cert.KernelIdeal.Gen.facts, Cert.ReferenceIdeal.Gen.facts, Cert.MoE.Pre.facts_kernel, Cert.MoE.Pre.facts_reference,
    Cert.MoE.frame_kernel, Cert.MoE.frame_ideal, fun m ρ _ => Cert.MoE.frame_ideal m ρ trivial,
    Cert.MoE.frame_reference, fun m ρ _ => Cert.MoE.frame_reference m ρ trivial, trivial,
    Cert.MoE.algebraic (hPre := Cert.MoE.Pre.facts_kernel)⟩

end Cert.Proof

end
